-- ==== Defs.lean ====
def Pre_Kernel [hPre_trade_0_Kernel : Cert.Pre_trade_0_Kernel.Facts] (m : (ℓ : Loc Cert.Kernel.nD Cert.Kernel.τ Cert.Kernel.sig) → Buf (Elt Bits) ℓ) : Prop :=
  ∀ c : Dev Cert.Kernel.nD,
    (Cert.Pre_trade_0_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_1_Kernel [hPre_trade_1_Kernel : Cert.Pre_trade_1_Kernel.Facts] (m : (ℓ : Loc Cert.Kernel.nD Cert.Kernel.τ Cert.Kernel.sig) → Buf (Elt Bits) ℓ) : Prop :=
  ∀ c : Dev Cert.Kernel.nD,
    (Cert.Pre_trade_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_2_Kernel [hPre_trade_2_Kernel : Cert.Pre_trade_2_Kernel.Facts] (m : (ℓ : Loc Cert.Kernel.nD Cert.Kernel.τ Cert.Kernel.sig) → Buf (Elt Bits) ℓ) : Prop :=
  ∀ c : Dev Cert.Kernel.nD,
    (Cert.Pre_trade_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_3_Kernel [hPre_trade_3_Kernel : Cert.Pre_trade_3_Kernel.Facts] (m : (ℓ : Loc Cert.Kernel.nD Cert.Kernel.τ Cert.Kernel.sig) → Buf (Elt Bits) ℓ) : Prop :=
  ∀ c : Dev Cert.Kernel.nD,
    (Cert.Pre_trade_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_4_Kernel [hPre_trade_4_Kernel : Cert.Pre_trade_4_Kernel.Facts] (m : (ℓ : Loc Cert.Kernel.nD Cert.Kernel.τ Cert.Kernel.sig) → Buf (Elt Bits) ℓ) : Prop :=
  ∀ c : Dev Cert.Kernel.nD,
    (Cert.Pre_trade_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_5_Kernel [hPre_trade_5_Kernel : Cert.Pre_trade_5_Kernel.Facts] (m : (ℓ : Loc Cert.Kernel.nD Cert.Kernel.τ Cert.Kernel.sig) → Buf (Elt Bits) ℓ) : Prop :=
  ∀ c : Dev Cert.Kernel.nD,
    (Cert.Pre_trade_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_6_Kernel [hPre_trade_6_Kernel : Cert.Pre_trade_6_Kernel.Facts] (m : (ℓ : Loc Cert.Kernel.nD Cert.Kernel.τ Cert.Kernel.sig) → Buf (Elt Bits) ℓ) : Prop :=
  ∀ c : Dev Cert.Kernel.nD,
    (Cert.Pre_trade_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_7_Kernel [hPre_trade_7_Kernel : Cert.Pre_trade_7_Kernel.Facts] (m : (ℓ : Loc Cert.Kernel.nD Cert.Kernel.τ Cert.Kernel.sig) → Buf (Elt Bits) ℓ) : Prop :=
  ∀ c : Dev Cert.Kernel.nD,
    (Cert.Pre_trade_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_trade_8_Kernel [hPre_trade_8_Kernel : Cert.Pre_trade_8_Kernel.Facts] (m : (ℓ : Loc Cert.Kernel.nD Cert.Kernel.τ Cert.Kernel.sig) → Buf (Elt Bits) ℓ) : Prop :=
  ∀ c : Dev Cert.Kernel.nD,
    (Cert.Pre_trade_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_trade_0_Kernel : Cert.Pre_trade_0_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_0_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_1_Kernel [hPre_trade_1_Kernel : Cert.Pre_trade_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_2_Kernel [hPre_trade_2_Kernel : Cert.Pre_trade_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_3_Kernel [hPre_trade_3_Kernel : Cert.Pre_trade_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_4_Kernel [hPre_trade_4_Kernel : Cert.Pre_trade_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_5_Kernel [hPre_trade_5_Kernel : Cert.Pre_trade_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_6_Kernel [hPre_trade_6_Kernel : Cert.Pre_trade_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_7_Kernel [hPre_trade_7_Kernel : Cert.Pre_trade_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_trade_8_Kernel [hPre_trade_8_Kernel : Cert.Pre_trade_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_trade_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_trade_0_ReferenceIdeal [hPre_trade_0_ReferenceIdeal : Cert.Pre_trade_0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_1_ReferenceIdeal [hPre_trade_1_ReferenceIdeal : Cert.Pre_trade_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_2_ReferenceIdeal [hPre_trade_2_ReferenceIdeal : Cert.Pre_trade_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_3_ReferenceIdeal [hPre_trade_3_ReferenceIdeal : Cert.Pre_trade_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_4_ReferenceIdeal [hPre_trade_4_ReferenceIdeal : Cert.Pre_trade_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_5_ReferenceIdeal [hPre_trade_5_ReferenceIdeal : Cert.Pre_trade_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_6_ReferenceIdeal [hPre_trade_6_ReferenceIdeal : Cert.Pre_trade_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_7_ReferenceIdeal [hPre_trade_7_ReferenceIdeal : Cert.Pre_trade_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_trade_8_ReferenceIdeal [hPre_trade_8_ReferenceIdeal : Cert.Pre_trade_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trade_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_trade_0_Kernel : Cert.Pre_trade_0_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_1_Kernel [hKernel : Cert.Kernel.Facts] [hPre_trade_1_Kernel : Cert.Pre_trade_1_Kernel.Facts] : Prop :=
  ∀ (m : (ℓ : Loc Cert.Kernel.nD Cert.Kernel.τ Cert.Kernel.sig) → Buf (Elt Bits) ℓ) (g : Dev Cert.Kernel.nD → PrngReg), Pre_Kernel_trade_1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_2_Kernel [hKernel : Cert.Kernel.Facts] [hPre_trade_2_Kernel : Cert.Pre_trade_2_Kernel.Facts] : Prop :=
  ∀ (m : (ℓ : Loc Cert.Kernel.nD Cert.Kernel.τ Cert.Kernel.sig) → Buf (Elt Bits) ℓ) (g : Dev Cert.Kernel.nD → PrngReg), Pre_Kernel_trade_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_3_Kernel [hKernel : Cert.Kernel.Facts] [hPre_trade_3_Kernel : Cert.Pre_trade_3_Kernel.Facts] : Prop :=
  ∀ (m : (ℓ : Loc Cert.Kernel.nD Cert.Kernel.τ Cert.Kernel.sig) → Buf (Elt Bits) ℓ) (g : Dev Cert.Kernel.nD → PrngReg), Pre_Kernel_trade_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_4_Kernel [hKernel : Cert.Kernel.Facts] [hPre_trade_4_Kernel : Cert.Pre_trade_4_Kernel.Facts] : Prop :=
  ∀ (m : (ℓ : Loc Cert.Kernel.nD Cert.Kernel.τ Cert.Kernel.sig) → Buf (Elt Bits) ℓ) (g : Dev Cert.Kernel.nD → PrngReg), Pre_Kernel_trade_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_5_Kernel [hKernel : Cert.Kernel.Facts] [hPre_trade_5_Kernel : Cert.Pre_trade_5_Kernel.Facts] : Prop :=
  ∀ (m : (ℓ : Loc Cert.Kernel.nD Cert.Kernel.τ Cert.Kernel.sig) → Buf (Elt Bits) ℓ) (g : Dev Cert.Kernel.nD → PrngReg), Pre_Kernel_trade_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_6_Kernel [hKernel : Cert.Kernel.Facts] [hPre_trade_6_Kernel : Cert.Pre_trade_6_Kernel.Facts] : Prop :=
  ∀ (m : (ℓ : Loc Cert.Kernel.nD Cert.Kernel.τ Cert.Kernel.sig) → Buf (Elt Bits) ℓ) (g : Dev Cert.Kernel.nD → PrngReg), Pre_Kernel_trade_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_7_Kernel [hKernel : Cert.Kernel.Facts] [hPre_trade_7_Kernel : Cert.Pre_trade_7_Kernel.Facts] : Prop :=
  ∀ (m : (ℓ : Loc Cert.Kernel.nD Cert.Kernel.τ Cert.Kernel.sig) → Buf (Elt Bits) ℓ) (g : Dev Cert.Kernel.nD → PrngReg), Pre_Kernel_trade_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_trade_8_Kernel [hKernel : Cert.Kernel.Facts] [hPre_trade_8_Kernel : Cert.Pre_trade_8_Kernel.Facts] : Prop :=
  ∀ (m : (ℓ : Loc Cert.Kernel.nD Cert.Kernel.τ Cert.Kernel.sig) → Buf (Elt Bits) ℓ) (g : Dev Cert.Kernel.nD → PrngReg), Pre_Kernel_trade_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_trade_0_Kernel : Cert.Pre_trade_0_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_1_Kernel [hKernelIdeal : Cert.KernelIdeal.Facts] [hPre_trade_1_Kernel : Cert.Pre_trade_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_2_Kernel [hKernelIdeal : Cert.KernelIdeal.Facts] [hPre_trade_2_Kernel : Cert.Pre_trade_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_3_Kernel [hKernelIdeal : Cert.KernelIdeal.Facts] [hPre_trade_3_Kernel : Cert.Pre_trade_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_4_Kernel [hKernelIdeal : Cert.KernelIdeal.Facts] [hPre_trade_4_Kernel : Cert.Pre_trade_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_5_Kernel [hKernelIdeal : Cert.KernelIdeal.Facts] [hPre_trade_5_Kernel : Cert.Pre_trade_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_6_Kernel [hKernelIdeal : Cert.KernelIdeal.Facts] [hPre_trade_6_Kernel : Cert.Pre_trade_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_7_Kernel [hKernelIdeal : Cert.KernelIdeal.Facts] [hPre_trade_7_Kernel : Cert.Pre_trade_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_trade_8_Kernel [hKernelIdeal : Cert.KernelIdeal.Facts] [hPre_trade_8_Kernel : Cert.Pre_trade_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trade_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_0_ReferenceIdeal [hReferenceIdeal : Cert.ReferenceIdeal.Facts] [hPre_trade_0_ReferenceIdeal : Cert.Pre_trade_0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_1_ReferenceIdeal [hReferenceIdeal : Cert.ReferenceIdeal.Facts] [hPre_trade_1_ReferenceIdeal : Cert.Pre_trade_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_2_ReferenceIdeal [hReferenceIdeal : Cert.ReferenceIdeal.Facts] [hPre_trade_2_ReferenceIdeal : Cert.Pre_trade_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_3_ReferenceIdeal [hReferenceIdeal : Cert.ReferenceIdeal.Facts] [hPre_trade_3_ReferenceIdeal : Cert.Pre_trade_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_4_ReferenceIdeal [hReferenceIdeal : Cert.ReferenceIdeal.Facts] [hPre_trade_4_ReferenceIdeal : Cert.Pre_trade_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_5_ReferenceIdeal [hReferenceIdeal : Cert.ReferenceIdeal.Facts] [hPre_trade_5_ReferenceIdeal : Cert.Pre_trade_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_6_ReferenceIdeal [hReferenceIdeal : Cert.ReferenceIdeal.Facts] [hPre_trade_6_ReferenceIdeal : Cert.Pre_trade_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_7_ReferenceIdeal [hReferenceIdeal : Cert.ReferenceIdeal.Facts] [hPre_trade_7_ReferenceIdeal : Cert.Pre_trade_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_trade_8_ReferenceIdeal [hReferenceIdeal : Cert.ReferenceIdeal.Facts] [hPre_trade_8_ReferenceIdeal : Cert.Pre_trade_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trade_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_trade_0_Kernel : Cert.Pre_trade_0_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_1_Kernel [hKernelIdeal : Cert.KernelIdeal.Facts] [hReferenceIdeal : Cert.ReferenceIdeal.Facts] [hPre_trade_1_Kernel : Cert.Pre_trade_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_1_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_2_Kernel [hKernelIdeal : Cert.KernelIdeal.Facts] [hReferenceIdeal : Cert.ReferenceIdeal.Facts] [hPre_trade_2_Kernel : Cert.Pre_trade_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_2_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_3_Kernel [hKernelIdeal : Cert.KernelIdeal.Facts] [hReferenceIdeal : Cert.ReferenceIdeal.Facts] [hPre_trade_3_Kernel : Cert.Pre_trade_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_3_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_4_Kernel [hKernelIdeal : Cert.KernelIdeal.Facts] [hReferenceIdeal : Cert.ReferenceIdeal.Facts] [hPre_trade_4_Kernel : Cert.Pre_trade_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_4_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_5_Kernel [hKernelIdeal : Cert.KernelIdeal.Facts] [hReferenceIdeal : Cert.ReferenceIdeal.Facts] [hPre_trade_5_Kernel : Cert.Pre_trade_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_5_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_6_Kernel [hKernelIdeal : Cert.KernelIdeal.Facts] [hReferenceIdeal : Cert.ReferenceIdeal.Facts] [hPre_trade_6_Kernel : Cert.Pre_trade_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_6_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_7_Kernel [hKernelIdeal : Cert.KernelIdeal.Facts] [hReferenceIdeal : Cert.ReferenceIdeal.Facts] [hPre_trade_7_Kernel : Cert.Pre_trade_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_7_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_trade_8_Kernel [hKernelIdeal : Cert.KernelIdeal.Facts] [hReferenceIdeal : Cert.ReferenceIdeal.Facts] [hPre_trade_8_Kernel : Cert.Pre_trade_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trade_8_Kernel m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_trade_0_Kernel : Cert.Pre_trade_0_Kernel.Facts) (hPre_trade_1_Kernel : Cert.Pre_trade_1_Kernel.Facts) (hPre_trade_2_Kernel : Cert.Pre_trade_2_Kernel.Facts) (hPre_trade_3_Kernel : Cert.Pre_trade_3_Kernel.Facts) (hPre_trade_4_Kernel : Cert.Pre_trade_4_Kernel.Facts) (hPre_trade_5_Kernel : Cert.Pre_trade_5_Kernel.Facts) (hPre_trade_6_Kernel : Cert.Pre_trade_6_Kernel.Facts) (hPre_trade_7_Kernel : Cert.Pre_trade_7_Kernel.Facts) (hPre_trade_8_Kernel : Cert.Pre_trade_8_Kernel.Facts) (hPre_trade_0_ReferenceIdeal : Cert.Pre_trade_0_ReferenceIdeal.Facts) (hPre_trade_1_ReferenceIdeal : Cert.Pre_trade_1_ReferenceIdeal.Facts) (hPre_trade_2_ReferenceIdeal : Cert.Pre_trade_2_ReferenceIdeal.Facts) (hPre_trade_3_ReferenceIdeal : Cert.Pre_trade_3_ReferenceIdeal.Facts) (hPre_trade_4_ReferenceIdeal : Cert.Pre_trade_4_ReferenceIdeal.Facts) (hPre_trade_5_ReferenceIdeal : Cert.Pre_trade_5_ReferenceIdeal.Facts) (hPre_trade_6_ReferenceIdeal : Cert.Pre_trade_6_ReferenceIdeal.Facts) (hPre_trade_7_ReferenceIdeal : Cert.Pre_trade_7_ReferenceIdeal.Facts) (hPre_trade_8_ReferenceIdeal : Cert.Pre_trade_8_ReferenceIdeal.Facts),
    quiescent_Kernel (hKernel := hKernel) (hPre_trade_0_Kernel := hPre_trade_0_Kernel)
    ∧ quiescent_Kernel_pre_trade_1_Kernel (hKernel := hKernel) (hPre_trade_1_Kernel := hPre_trade_1_Kernel)
    ∧ quiescent_Kernel_pre_trade_2_Kernel (hKernel := hKernel) (hPre_trade_2_Kernel := hPre_trade_2_Kernel)
    ∧ quiescent_Kernel_pre_trade_3_Kernel (hKernel := hKernel) (hPre_trade_3_Kernel := hPre_trade_3_Kernel)
    ∧ quiescent_Kernel_pre_trade_4_Kernel (hKernel := hKernel) (hPre_trade_4_Kernel := hPre_trade_4_Kernel)
    ∧ quiescent_Kernel_pre_trade_5_Kernel (hKernel := hKernel) (hPre_trade_5_Kernel := hPre_trade_5_Kernel)
    ∧ quiescent_Kernel_pre_trade_6_Kernel (hKernel := hKernel) (hPre_trade_6_Kernel := hPre_trade_6_Kernel)
    ∧ quiescent_Kernel_pre_trade_7_Kernel (hKernel := hKernel) (hPre_trade_7_Kernel := hPre_trade_7_Kernel)
    ∧ quiescent_Kernel_pre_trade_8_Kernel (hKernel := hKernel) (hPre_trade_8_Kernel := hPre_trade_8_Kernel)
    ∧ quiescent_KernelIdeal (hKernelIdeal := hKernelIdeal) (hPre_trade_0_Kernel := hPre_trade_0_Kernel)
    ∧ quiescent_KernelIdeal_pre_trade_1_Kernel (hKernelIdeal := hKernelIdeal) (hPre_trade_1_Kernel := hPre_trade_1_Kernel)
    ∧ quiescent_KernelIdeal_pre_trade_2_Kernel (hKernelIdeal := hKernelIdeal) (hPre_trade_2_Kernel := hPre_trade_2_Kernel)
    ∧ quiescent_KernelIdeal_pre_trade_3_Kernel (hKernelIdeal := hKernelIdeal) (hPre_trade_3_Kernel := hPre_trade_3_Kernel)
    ∧ quiescent_KernelIdeal_pre_trade_4_Kernel (hKernelIdeal := hKernelIdeal) (hPre_trade_4_Kernel := hPre_trade_4_Kernel)
    ∧ quiescent_KernelIdeal_pre_trade_5_Kernel (hKernelIdeal := hKernelIdeal) (hPre_trade_5_Kernel := hPre_trade_5_Kernel)
    ∧ quiescent_KernelIdeal_pre_trade_6_Kernel (hKernelIdeal := hKernelIdeal) (hPre_trade_6_Kernel := hPre_trade_6_Kernel)
    ∧ quiescent_KernelIdeal_pre_trade_7_Kernel (hKernelIdeal := hKernelIdeal) (hPre_trade_7_Kernel := hPre_trade_7_Kernel)
    ∧ quiescent_KernelIdeal_pre_trade_8_Kernel (hKernelIdeal := hKernelIdeal) (hPre_trade_8_Kernel := hPre_trade_8_Kernel)
    ∧ quiescent_ReferenceIdeal (hReferenceIdeal := hReferenceIdeal)
    ∧ quiescent_ReferenceIdeal_pre_trade_0_ReferenceIdeal (hReferenceIdeal := hReferenceIdeal) (hPre_trade_0_ReferenceIdeal := hPre_trade_0_ReferenceIdeal)
    ∧ quiescent_ReferenceIdeal_pre_trade_1_ReferenceIdeal (hReferenceIdeal := hReferenceIdeal) (hPre_trade_1_ReferenceIdeal := hPre_trade_1_ReferenceIdeal)
    ∧ quiescent_ReferenceIdeal_pre_trade_2_ReferenceIdeal (hReferenceIdeal := hReferenceIdeal) (hPre_trade_2_ReferenceIdeal := hPre_trade_2_ReferenceIdeal)
    ∧ quiescent_ReferenceIdeal_pre_trade_3_ReferenceIdeal (hReferenceIdeal := hReferenceIdeal) (hPre_trade_3_ReferenceIdeal := hPre_trade_3_ReferenceIdeal)
    ∧ quiescent_ReferenceIdeal_pre_trade_4_ReferenceIdeal (hReferenceIdeal := hReferenceIdeal) (hPre_trade_4_ReferenceIdeal := hPre_trade_4_ReferenceIdeal)
    ∧ quiescent_ReferenceIdeal_pre_trade_5_ReferenceIdeal (hReferenceIdeal := hReferenceIdeal) (hPre_trade_5_ReferenceIdeal := hPre_trade_5_ReferenceIdeal)
    ∧ quiescent_ReferenceIdeal_pre_trade_6_ReferenceIdeal (hReferenceIdeal := hReferenceIdeal) (hPre_trade_6_ReferenceIdeal := hPre_trade_6_ReferenceIdeal)
    ∧ quiescent_ReferenceIdeal_pre_trade_7_ReferenceIdeal (hReferenceIdeal := hReferenceIdeal) (hPre_trade_7_ReferenceIdeal := hPre_trade_7_ReferenceIdeal)
    ∧ quiescent_ReferenceIdeal_pre_trade_8_ReferenceIdeal (hReferenceIdeal := hReferenceIdeal) (hPre_trade_8_ReferenceIdeal := hPre_trade_8_ReferenceIdeal)
    ∧ preserves_Kernel_KernelIdeal
    ∧ algebraic_KernelIdeal_ReferenceIdeal (hKernelIdeal := hKernelIdeal) (hReferenceIdeal := hReferenceIdeal) (hPre_trade_0_Kernel := hPre_trade_0_Kernel)
    ∧ algebraic_KernelIdeal_ReferenceIdeal_pre_trade_1_Kernel (hKernelIdeal := hKernelIdeal) (hReferenceIdeal := hReferenceIdeal) (hPre_trade_1_Kernel := hPre_trade_1_Kernel)
    ∧ algebraic_KernelIdeal_ReferenceIdeal_pre_trade_2_Kernel (hKernelIdeal := hKernelIdeal) (hReferenceIdeal := hReferenceIdeal) (hPre_trade_2_Kernel := hPre_trade_2_Kernel)
    ∧ algebraic_KernelIdeal_ReferenceIdeal_pre_trade_3_Kernel (hKernelIdeal := hKernelIdeal) (hReferenceIdeal := hReferenceIdeal) (hPre_trade_3_Kernel := hPre_trade_3_Kernel)
    ∧ algebraic_KernelIdeal_ReferenceIdeal_pre_trade_4_Kernel (hKernelIdeal := hKernelIdeal) (hReferenceIdeal := hReferenceIdeal) (hPre_trade_4_Kernel := hPre_trade_4_Kernel)
    ∧ algebraic_KernelIdeal_ReferenceIdeal_pre_trade_5_Kernel (hKernelIdeal := hKernelIdeal) (hReferenceIdeal := hReferenceIdeal) (hPre_trade_5_Kernel := hPre_trade_5_Kernel)
    ∧ algebraic_KernelIdeal_ReferenceIdeal_pre_trade_6_Kernel (hKernelIdeal := hKernelIdeal) (hReferenceIdeal := hReferenceIdeal) (hPre_trade_6_Kernel := hPre_trade_6_Kernel)
    ∧ algebraic_KernelIdeal_ReferenceIdeal_pre_trade_7_Kernel (hKernelIdeal := hKernelIdeal) (hReferenceIdeal := hReferenceIdeal) (hPre_trade_7_Kernel := hPre_trade_7_Kernel)
    ∧ algebraic_KernelIdeal_ReferenceIdeal_pre_trade_8_Kernel (hKernelIdeal := hKernelIdeal) (hReferenceIdeal := hReferenceIdeal) (hPre_trade_8_Kernel := hPre_trade_8_Kernel)
-- ==== Pre_trade_0_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 4294967168#32
  let main_v11 : IVec S_ 1 := cmpi .sgt main_v1 main_c_5
  let main_v12 : IVec S_ 1 := andi main_v10 main_v11
  let main_c_6 : IVec S_ 32 := constantI S_ 32 0#32
  let main_v13 : IVec S_ 1 := cmpi .sle main_v1 main_c_6
  let main_v14 : IVec S_ 1 := andi main_v12 main_v13
  main_v14
-- ==== Pre_trade_0_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 4294967168#32
  let main_v11 : IVec S_ 1 := cmpi .sgt main_v1 main_c_5
  let main_v12 : IVec S_ 1 := andi main_v10 main_v11
  let main_c_6 : IVec S_ 32 := constantI S_ 32 0#32
  let main_v13 : IVec S_ 1 := cmpi .sle main_v1 main_c_6
  let main_v14 : IVec S_ 1 := andi main_v12 main_v13
  main_v14
-- ==== Pre_trade_1_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 0#32
  let main_v11 : IVec S_ 1 := cmpi .sgt main_v1 main_c_5
  let main_v12 : IVec S_ 1 := andi main_v10 main_v11
  let main_c_6 : IVec S_ 32 := constantI S_ 32 128#32
  let main_v13 : IVec S_ 1 := cmpi .sle main_v1 main_c_6
  let main_v14 : IVec S_ 1 := andi main_v12 main_v13
  main_v14
-- ==== Pre_trade_1_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 0#32
  let main_v11 : IVec S_ 1 := cmpi .sgt main_v1 main_c_5
  let main_v12 : IVec S_ 1 := andi main_v10 main_v11
  let main_c_6 : IVec S_ 32 := constantI S_ 32 128#32
  let main_v13 : IVec S_ 1 := cmpi .sle main_v1 main_c_6
  let main_v14 : IVec S_ 1 := andi main_v12 main_v13
  main_v14
-- ==== Pre_trade_2_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 128#32
  let main_v11 : IVec S_ 1 := cmpi .sgt main_v1 main_c_5
  let main_v12 : IVec S_ 1 := andi main_v10 main_v11
  let main_c_6 : IVec S_ 32 := constantI S_ 32 256#32
  let main_v13 : IVec S_ 1 := cmpi .sle main_v1 main_c_6
  let main_v14 : IVec S_ 1 := andi main_v12 main_v13
  main_v14
-- ==== Pre_trade_2_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 128#32
  let main_v11 : IVec S_ 1 := cmpi .sgt main_v1 main_c_5
  let main_v12 : IVec S_ 1 := andi main_v10 main_v11
  let main_c_6 : IVec S_ 32 := constantI S_ 32 256#32
  let main_v13 : IVec S_ 1 := cmpi .sle main_v1 main_c_6
  let main_v14 : IVec S_ 1 := andi main_v12 main_v13
  main_v14
-- ==== Pre_trade_3_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 256#32
  let main_v11 : IVec S_ 1 := cmpi .sgt main_v1 main_c_5
  let main_v12 : IVec S_ 1 := andi main_v10 main_v11
  let main_c_6 : IVec S_ 32 := constantI S_ 32 384#32
  let main_v13 : IVec S_ 1 := cmpi .sle main_v1 main_c_6
  let main_v14 : IVec S_ 1 := andi main_v12 main_v13
  main_v14
-- ==== Pre_trade_3_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 256#32
  let main_v11 : IVec S_ 1 := cmpi .sgt main_v1 main_c_5
  let main_v12 : IVec S_ 1 := andi main_v10 main_v11
  let main_c_6 : IVec S_ 32 := constantI S_ 32 384#32
  let main_v13 : IVec S_ 1 := cmpi .sle main_v1 main_c_6
  let main_v14 : IVec S_ 1 := andi main_v12 main_v13
  main_v14
-- ==== Pre_trade_4_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 384#32
  let main_v11 : IVec S_ 1 := cmpi .sgt main_v1 main_c_5
  let main_v12 : IVec S_ 1 := andi main_v10 main_v11
  let main_c_6 : IVec S_ 32 := constantI S_ 32 512#32
  let main_v13 : IVec S_ 1 := cmpi .sle main_v1 main_c_6
  let main_v14 : IVec S_ 1 := andi main_v12 main_v13
  main_v14
-- ==== Pre_trade_4_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 384#32
  let main_v11 : IVec S_ 1 := cmpi .sgt main_v1 main_c_5
  let main_v12 : IVec S_ 1 := andi main_v10 main_v11
  let main_c_6 : IVec S_ 32 := constantI S_ 32 512#32
  let main_v13 : IVec S_ 1 := cmpi .sle main_v1 main_c_6
  let main_v14 : IVec S_ 1 := andi main_v12 main_v13
  main_v14
-- ==== Pre_trade_5_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 512#32
  let main_v11 : IVec S_ 1 := cmpi .sgt main_v1 main_c_5
  let main_v12 : IVec S_ 1 := andi main_v10 main_v11
  let main_c_6 : IVec S_ 32 := constantI S_ 32 640#32
  let main_v13 : IVec S_ 1 := cmpi .sle main_v1 main_c_6
  let main_v14 : IVec S_ 1 := andi main_v12 main_v13
  main_v14
-- ==== Pre_trade_5_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 512#32
  let main_v11 : IVec S_ 1 := cmpi .sgt main_v1 main_c_5
  let main_v12 : IVec S_ 1 := andi main_v10 main_v11
  let main_c_6 : IVec S_ 32 := constantI S_ 32 640#32
  let main_v13 : IVec S_ 1 := cmpi .sle main_v1 main_c_6
  let main_v14 : IVec S_ 1 := andi main_v12 main_v13
  main_v14
-- ==== Pre_trade_6_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 640#32
  let main_v11 : IVec S_ 1 := cmpi .sgt main_v1 main_c_5
  let main_v12 : IVec S_ 1 := andi main_v10 main_v11
  let main_c_6 : IVec S_ 32 := constantI S_ 32 768#32
  let main_v13 : IVec S_ 1 := cmpi .sle main_v1 main_c_6
  let main_v14 : IVec S_ 1 := andi main_v12 main_v13
  main_v14
-- ==== Pre_trade_6_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 640#32
  let main_v11 : IVec S_ 1 := cmpi .sgt main_v1 main_c_5
  let main_v12 : IVec S_ 1 := andi main_v10 main_v11
  let main_c_6 : IVec S_ 32 := constantI S_ 32 768#32
  let main_v13 : IVec S_ 1 := cmpi .sle main_v1 main_c_6
  let main_v14 : IVec S_ 1 := andi main_v12 main_v13
  main_v14
-- ==== Pre_trade_7_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 768#32
  let main_v11 : IVec S_ 1 := cmpi .sgt main_v1 main_c_5
  let main_v12 : IVec S_ 1 := andi main_v10 main_v11
  let main_c_6 : IVec S_ 32 := constantI S_ 32 896#32
  let main_v13 : IVec S_ 1 := cmpi .sle main_v1 main_c_6
  let main_v14 : IVec S_ 1 := andi main_v12 main_v13
  main_v14
-- ==== Pre_trade_7_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 768#32
  let main_v11 : IVec S_ 1 := cmpi .sgt main_v1 main_c_5
  let main_v12 : IVec S_ 1 := andi main_v10 main_v11
  let main_c_6 : IVec S_ 32 := constantI S_ 32 896#32
  let main_v13 : IVec S_ 1 := cmpi .sle main_v1 main_c_6
  let main_v14 : IVec S_ 1 := andi main_v12 main_v13
  main_v14
-- ==== Pre_trade_8_Kernel.lean ====
abbrev S1024x512 : Shape := ⟨2, ![1024, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 896#32
  let main_v11 : IVec S_ 1 := cmpi .sgt main_v1 main_c_5
  let main_v12 : IVec S_ 1 := andi main_v10 main_v11
  let main_c_6 : IVec S_ 32 := constantI S_ 32 1024#32
  let main_v13 : IVec S_ 1 := cmpi .sle main_v1 main_c_6
  let main_v14 : IVec S_ 1 := andi main_v12 main_v13
  main_v14
-- ==== Pre_trade_8_ReferenceIdeal.lean ====
abbrev S2048x512 : Shape := ⟨2, ![2048, 512]⟩
abbrev S2048 : Shape := ⟨1, ![2048]⟩
abbrev S1024 : Shape := ⟨1, ![1024]⟩
abbrev S_ : Shape := ⟨0, ![]⟩

class Facts : Prop where
  slices_S2048_S1024_0 : S2048.Slices ![0] S1024
  reducesTo_S1024_S_d0 : S1024.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) : IVec S_ 1 :=
  let main_v0 : IVec S1024 32 := (extractStridedSlice S1024 ![0] · slices_S2048_S1024_0) main_arg1
  let main_c : IVec S_ 32 := constantI S_ 32 0#32
  let main_v1 : IVec S_ 32 := (fun x v => Host.reduce IntOp.addi x v reducesTo_S1024_S_d0 h_S_) main_v0 main_c
  let main_c_0 : IVec S_ 32 := constantI S_ 32 0#32
  let main_v2 : IVec S2048 32 := broadcastInDim S2048 ![] bcast_S_S2048 main_c_0
  let main_v3 : IVec S2048 1 := cmpi .eq main_arg1 main_v2
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 1 := ori main_v3 main_v5
  let main_c_2 : IVec S_ 1 := constantI S_ 1 1#1
  let main_v7 : IVec S_ 1 := (fun x v => Host.reduce IntOp.andi x v reducesTo_S2048_S_d0 h_S_) main_v6 main_c_2
  let main_c_3 : IVec S_ 32 := constantI S_ 32 0#32
  let main_v8 : IVec S_ 32 := (fun x v => Host.reduce IntOp.addi x v reducesTo_S2048_S_d0 h_S_) main_arg1 main_c_3
  let main_c_4 : IVec S_ 32 := constantI S_ 32 1024#32
  let main_v9 : IVec S_ 1 := cmpi .eq main_v8 main_c_4
  let main_v10 : IVec S_ 1 := andi main_v7 main_v9
  let main_c_5 : IVec S_ 32 := constantI S_ 32 896#32
  let main_v11 : IVec S_ 1 := cmpi .sgt main_v1 main_c_5
  let main_v12 : IVec S_ 1 := andi main_v10 main_v11
  let main_c_6 : IVec S_ 32 := constantI S_ 32 1024#32
  let main_v13 : IVec S_ 1 := cmpi .sle main_v1 main_c_6
  let main_v14 : IVec S_ 1 := andi main_v12 main_v13
  main_v14
-- ==== Kernel.lean ====
abbrev S1024x512 : Shape := ⟨2, ![1024, 512]⟩
abbrev S2048 : Shape := ⟨1, ![2048]⟩
abbrev S_ : Shape := ⟨0, ![]⟩
abbrev S1024 : Shape := ⟨1, ![1024]⟩
abbrev S1x1024 : Shape := ⟨2, ![1, 1024]⟩
abbrev S8 : Shape := ⟨1, ![8]⟩
abbrev S1x1x1024 : Shape := ⟨3, ![1, 1, 1024]⟩
abbrev S1 : Shape := ⟨1, ![1]⟩
abbrev S1x1x1 : Shape := ⟨3, ![1, 1, 1]⟩
abbrev S128x1024 : Shape := ⟨2, ![128, 1024]⟩
abbrev S128x512 : Shape := ⟨2, ![128, 512]⟩
abbrev S1024x1024 : Shape := ⟨2, ![1024, 1024]⟩
abbrev S128x1 : Shape := ⟨2, ![128, 1]⟩

abbrev nBuf : Space → Nat
  | .hbm => 18
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1x1024, .i32⟩
  | .hbm, ⟨17, _⟩ => ⟨S1024x512, .bf16⟩
  | .local _ .vmem, ⟨0, _⟩ => ⟨S1024x512, .bf16⟩
  | .local _ .vmem, ⟨1, _⟩ => ⟨S1024x512, .f32⟩
  | .local _ .vmem, ⟨2, _⟩ => ⟨S1x1024, .i32⟩
  | .local _ .vmem, ⟨3, _⟩ => ⟨S1024x512, .bf16⟩
  | .local _ .vmem, ⟨4, _⟩ => ⟨S1024x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev3 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev4 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev5 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev6 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev7 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev8 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
def k0_dev9 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v435 : BitVec 32 := Scalar.muli v2 c4_i32_226
  let v436 : BitVec 32 := Scalar.addi c0_i32_227 v435
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v437 : BitVec 32 := Scalar.muli v9 c2_i32_228
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v439 : BitVec 32 := Scalar.muli v8 c1_i32_229
  let v440 : BitVec 32 := Scalar.addi v438 v439
  v440.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S_ : Shape := ⟨0, ![]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512, .f32⟩
  | .hbm, ⟨14, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Words.lean ====
/-
The scalar words and the vectors one device computes from its own half of `dest` and its own half of `x`,
named by what they mean, as functions of the device and of the two arrays it reads.
-/
module

public import proofs.«01_k».proof.Proof.Gen.KernelIdeal.Skeleton

@[expose] public section

noncomputable section

namespace Cert.Trade

open Idealize.ShloMosaic Idealize.SL.Sem
open Cert.KernelIdeal Cert.KernelIdeal.Gen

variable {F : FTy → Type} [FloatOps F]

/-! ## The scalar words -/

/-- The device's coordinate on the axis the rows are traded over: 0 or 1. -/
def meW (c : Dev nD) : BitVec 32 := Scalar.remsi (Scalar.divsi (Dev.word c) 2#32) 2#32

/-- How many of the device's rows leave it. -/
def leaveW (c : Dev nD) (d : IVec S1x1024 32) : BitVec 32 := extractAt ![0, 0, 0] (k0_pay3 (F := F) c d) inpos_S1x1x1_p0_0_0

/-- Where the first row that leaves is put on the other device. -/
def outStart (c : Dev nD) (n : BitVec 32) : BitVec 32 :=
  Scalar.select (Scalar.cmpi .eq (meW c) 0#32) 0#32 (Scalar.subi 1024#32 n)

/-- Where the first row that comes is put on this device. -/
def inStart (c : Dev nD) (n : BitVec 32) : BitVec 32 :=
  Scalar.select (Scalar.cmpi .eq (meW c) 0#32) (Scalar.subi 1024#32 n) 0#32

/-- The quotient by 128 rounded down, as the program spells it. -/
def floor128 (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)

/-- The first block of 128 rows that rows starting at `s` touch. -/
def firstBlock (s : BitVec 32) : BitVec 32 := floor128 s
/-- One past the last block of 128 rows that `n` rows starting at `s` touch. -/
def endBlock (s n : BitVec 32) : BitVec 32 := floor128 (Scalar.subi (Scalar.addi (Scalar.addi s n) 128#32) 1#32)

/-- The bit the program tests before it moves block `k`. -/
def touchBit (lo hi k : BitVec 32) : BitVec 1 :=
  Scalar.cmpi .ne (Scalar.extui (Scalar.andi (Scalar.cmpi .sle lo k) (Scalar.cmpi .sgt hi k)) : BitVec 32) 0#32

/-- Whether the rows `s, …, s + n - 1` touch block `i`. -/
def touches (s n : BitVec 32) (i : Fin 8) : Bool := decide (touchBit (firstBlock s) (endBlock s n) (BitVec.ofNat 32 i.val) = 1#1)

/-- Whether the device sends its block `i`. -/
def sends (c : Dev nD) (n : BitVec 32) (i : Fin 8) : Bool := touches (outStart c n) n i
/-- Whether the device receives block `i`. -/
def comes (c : Dev nD) (n : BitVec 32) (i : Fin 8) : Bool := touches (inStart c n) n i

/-! ## The vectors -/

/-- The mark of a row that leaves. -/
def leaves (c : Dev nD) (d : IVec S1x1024 32) : IVec S1x1024 1 := k0_pay1 (F := F) c d

/-- The running count of rows that leave, before its last two doublings. -/
def count256 (c : Dev nD) (d : IVec S1x1024 32) : IVec S1x1024 32 :=
  k0_pay7 (iota .tc S1x1024 32 [1] iota_S1x1024_d1_w32) (k0_pay4 (F := F) c d) k0_pay5 (k0_pay6 (F := F) c d)

/-- Where each row that leaves goes on the other device; 3000 for a row that stays. -/
def goesTo (c : Dev nD) (d : IVec S1x1024 32) : IVec S1x1024 32 :=
  k0_pay10 (meW c) (leaves (F := F) c d) (leaveW (F := F) c d) (iota .tc S1x1024 32 [1] iota_S1x1024_d1_w32) (count256 (F := F) c d) k0_pay8

/-- Where each row that stays goes; 3000 for a row that leaves. -/
def staysAt (c : Dev nD) (d : IVec S1x1024 32) : IVec S1x1024 32 :=
  k0_pay11 (meW c) (leaves (F := F) c d) (leaveW (F := F) c d) (iota .tc S1x1024 32 [1] iota_S1x1024_d1_w32) (count256 (F := F) c d) k0_pay8

/-- Block `i` of what the device sends: the rows that leave, each at its place, the other rows zero. -/
def sentBlock (g : IVec S1x1024 32) (x : Vec F S1024x512 .f32) : Fin 8 → FVec F S128x512 .bf16
  | 0 => k0_pay12 g x | 1 => k0_pay13 g x | 2 => k0_pay14 g x | 3 => k0_pay15 g x
  | 4 => k0_pay16 g x | 5 => k0_pay17 g x | 6 => k0_pay18 g x | 7 => k0_pay19 g x

/-- The rows that stay, each at its place, the other rows zero. -/
def kept (s : IVec S1x1024 32) (x : Vec F S1024x512 .f32) : FVec F S1024x512 .bf16 := k0_pay20 s x

/-- The row numbers of one block. -/
def blockRows : IVec S128x1 32 := iota .tc S128x1 32 [0] iota_S128x1_d0_w32

/-- Block `i` of the device's result, from what its receive buffer holds there: the rows from `r` on, `n` of them,
    as received, the others as kept. -/
def outBlock (n r : BitVec 32) (s : IVec S1x1024 32) (x : Vec F S1024x512 .f32) : Fin 8 → Vec F S128x512 .bf16 → Vec F S128x512 .bf16
  | 0 => k0_pay21 n s r x | 1 => k0_pay22 n r (kept s x) blockRows | 2 => k0_pay23 n r (kept s x) blockRows
  | 3 => k0_pay24 n r (kept s x) blockRows | 4 => k0_pay25 n r (kept s x) blockRows | 5 => k0_pay26 n r (kept s x) blockRows
  | 6 => k0_pay27 n r (kept s x) blockRows | 7 => k0_pay28 n r (kept s x) blockRows

end Cert.Trade
-- ==== Proof.Protocol.lean ====
/-
The kernel's protocol: every device trades with one other device, over nineteen semaphores. The barrier says the
receive buffer may be written; two semaphores count the copies of the device's own inputs; one semaphore per
block of 128 rows counts what the device has sent and one per block what it has received.

Each cell is waited on at most once. What its one payment hands over is stated here, with its contents.
-/
module

public import proofs.«01_k».proof.Proof.Words
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Tactic

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resources: two copies of the rounds algebra, one for the staging buffer's cells and one for the kernel's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The other device -/

/-- The device this one trades with: the one whose middle coordinate is the other value. -/
def pr (c : Dev nD) : Dev nD := ⟨k0_dev1 c, k0_dev1_lt c⟩
theorem pr_pr (c : Dev nD) : pr (pr c) = c := by revert c; decide +kernel
/-- Trading places is a permutation of the devices. -/
def swap : Dev nD ≃ Dev nD := ⟨pr, pr, pr_pr, pr_pr⟩

/-! ## What the devices read -/

/-- What every device reads: its rows of `x`, and its half of `dest`. -/
structure Plan (F : FTy → Type) where
  x : Dev nD → Vec F S1024x512 .f32
  d : Dev nD → IVec S1x1024 32

namespace Plan

variable (p : Plan F)

/-- How many rows leave device `c`. -/
def n (c : Dev nD) : BitVec 32 := leaveW (F := F) c (p.d c)
/-- Whether device `c` sends block `i`. -/
def sAct (c : Dev nD) (i : Fin 8) : Bool := sends c (p.n c) i
/-- Whether device `c` receives block `i`. -/
def rAct (c : Dev nD) (i : Fin 8) : Bool := comes c (p.n c) i
/-- Block `i` of what device `c` sends. -/
def sent (c : Dev nD) (i : Fin 8) : FVec F S128x512 .bf16 := sentBlock (goesTo (F := F) c (p.d c)) (p.x c) i
/-- Block `i` of device `c`'s result, from what lies in its receive buffer there. -/
def out (c : Dev nD) (i : Fin 8) (v : Vec F S128x512 .bf16) : Vec F S128x512 .bf16 :=
  outBlock (p.n c) (inStart c (p.n c)) (staysAt (F := F) c (p.d c)) (p.x c) i v
/-- Block `i` of device `c`'s result. -/
def outC (c : Dev nD) (i : Fin 8) : Vec F S128x512 .bf16 := p.out c i (p.sent (pr c) i)

/-- A block is received exactly when the other device of the pair sends it. -/
def Even : Prop := ∀ c i, p.rAct (pr c) i = p.sAct c i
/-- A block that is not received is not read. -/
def Unread : Prop := ∀ c i, p.rAct c i = false → ∀ v v', p.out c i v = p.out c i v'

end Plan

/-- Rows come in where the other device puts them. -/
theorem inStart_pr (c : Dev nD) (n : BitVec 32) : inStart (pr c) n = outStart c n := by
  unfold inStart outStart
  have h : ∀ c : Dev nD, (Scalar.cmpi .eq (meW (pr c)) 0#32 = 1#1 ∧ Scalar.cmpi .eq (meW c) 0#32 = 0#1)
      ∨ (Scalar.cmpi .eq (meW (pr c)) 0#32 = 0#1 ∧ Scalar.cmpi .eq (meW c) 0#32 = 1#1) := by decide +kernel
  rcases h c with ⟨h₁, h₂⟩ | ⟨h₁, h₂⟩ <;> rw [h₁, h₂] <;> rfl

theorem Plan.Even.rAct_pr {p : Plan F} (hp : p.Even) (c : Dev nD) (i : Fin 8) : p.rAct (pr c) i = p.sAct c i := hp c i

/-! ## Memrefs -/

abbrev dM : Memref sig .tc .hbm S1x1024 .i32 := Memref.whole main_v10
abbrev xM : Memref sig .tc .hbm S1024x512 .f32 := Memref.whole main_arg0
abbrev oM : Memref sig .tc .vmem S1024x512 .bf16 := Memref.whole cc0_stg0_0
abbrev xvM : Memref sig .tc .vmem S1024x512 .f32 := Memref.whole cc0_scratch0
abbrev dvM : Memref sig .tc .vmem S1x1024 .i32 := Memref.whole cc0_scratch1
abbrev sbM : Memref sig .tc .vmem S1024x512 .bf16 := Memref.whole cc0_scratch2
abbrev rbM : Memref sig .tc .vmem S1024x512 .bf16 := Memref.whole cc0_scratch3

theorem inb_block (i : Fin 8) : ∀ a, (![128 * i.val, 0] : Fin 2 → Nat) a + S128x512.size a ≤ S1024x512.size a := by
  revert i; decide
/-- Rows `128 i` to `128 i + 127`. -/
abbrev blk (i : Fin 8) : Rect S1024x512 := Rect.unit (s := S1024x512) ![128 * i.val, 0] S128x512.size (inb_block i)
/-- Those rows of a buffer. -/
abbrev part {sp : Space} {e : EltTy} (m : Memref sig .tc sp S1024x512 e) (i : Fin 8) : Memref sig .tc sp S128x512 e :=
  m.slice (blk i) (fun _ => rfl)

/-- The memref's elements, at some contents. -/
def some' (c : Dev nD) {sp : Space} {s : Shape} {e : EltTy} (m : Memref sig .tc sp s e) : sProp 𝕄 :=
  iprop(∃ f, m.view.loc (c : Thread nD τ) ↦[m.view.set]{fullShare} f)

instance some'_storable (c : Dev nD) {sp : Space} {s : Shape} {e : EltTy} (m : Memref sig .tc sp s e) :
    BI.Storable (upEmb : UEmb _ 𝕄) (some' (F := F) c m) := by unfold some'; infer_instance

/-- Elements owned at known contents are owned at some. -/
theorem owns_some' (c : Dev nD) {sp : Space} {s : Shape} {e : EltTy} (m : Memref sig .tc sp s e) (v : s.Idx → Elt F e) :
    (owns (c : Thread nD τ) m fullShare v : sProp 𝕄) ⊢ some' c m := by
  unfold owns some'; iintro ⟨%f, -, H⟩; iexists f; iexact H

/-! ## Semaphores and cells -/

abbrev barS : Sem sig := barrier0
abbrev xS : DmaSem sig := ⟨1, by decide⟩
abbrev dS : DmaSem sig := ⟨2, by decide⟩
def sndS (i : Fin 8) : DmaSem sig := ⟨3 + i.val, by have := i.isLt; show 3 + i.val < 19; omega⟩
def rcvS (i : Fin 8) : DmaSem sig := ⟨11 + i.val, by have := i.isLt; show 11 + i.val < 19; omega⟩

/-- What a semaphore is for. -/
inductive Role | bar | x | d | send (i : Fin 8) | recv (i : Fin 8) | other
  deriving DecidableEq

/-- The semaphore's role. -/
def role : SemLoc sig → Role
  | .reg s => if s = barS then .bar else .other
  | .dma s =>
    if s.val = 1 then .x else if s.val = 2 then .d
    else if h : 3 ≤ s.val ∧ s.val < 11 then .send ⟨s.val - 3, by omega⟩
    else if h : 11 ≤ s.val ∧ s.val < 19 then .recv ⟨s.val - 11, by omega⟩ else .other

theorem role_bar : role (.reg barS) = .bar := by decide
theorem role_x : role (.dma xS) = .x := by decide
theorem role_d : role (.dma dS) = .d := by decide
theorem role_snd (i : Fin 8) : role (.dma (sndS i)) = .send i := by revert i; decide
theorem role_rcv (i : Fin 8) : role (.dma (rcvS i)) = .recv i := by revert i; decide

abbrev barCell (c : Dev nD) : GSem nD τ sig := ((c : Thread nD τ), .reg barS)
abbrev xCell (c : Dev nD) : GSem nD τ sig := ((c : Thread nD τ), .dma xS)
abbrev dCell (c : Dev nD) : GSem nD τ sig := ((c : Thread nD τ), .dma dS)
abbrev sndCell (c : Dev nD) (i : Fin 8) : GSem nD τ sig := ((c : Thread nD τ), .dma (sndS i))
abbrev rcvCell (c : Dev nD) (i : Fin 8) : GSem nD τ sig := ((c : Thread nD τ), .dma (rcvS i))

/-- What one block's transfer counts. -/
def N : ℕ := (part rbM 0).view.dmaCredit
/-- What the copy of `x` counts, and the copy of `dest`. -/
def Nx : ℕ := xvM.view.dmaCredit
def Nd : ℕ := dvM.view.dmaCredit
theorem N_pos : 0 < N := View.dmaCredit_pos _ (by decide)
theorem Nx_pos : 0 < Nx := View.dmaCredit_pos _ (by decide)
theorem Nd_pos : 0 < Nd := View.dmaCredit_pos _ (by decide)
theorem credit_rb (i : Fin 8) : (part rbM i).view.dmaCredit = N := rfl
theorem credit_sb (i : Fin 8) : (part sbM i).view.dmaCredit = N := by unfold N; rfl

/-! ## The schedule -/

section Sched

variable (p : Plan F)

/-- The cells that are paid once; the others are never paid. -/
def live (c : Dev nD) : Role → Bool
  | .bar => true | .x => true | .d => true | .send i => p.sAct c i | .recv i => p.rAct c i | .other => false

/-- How much one payment is. -/
def amt : Role → ℕ
  | .bar => 1 | .x => Nx | .d => Nd | .send _ => N | .recv _ => N | .other => 1

theorem amt_pos : ∀ r, 0 < amt r
  | .bar => Nat.one_pos | .x => Nx_pos | .d => Nd_pos | .send _ => N_pos | .recv _ => N_pos | .other => Nat.one_pos

/-- Handed over with the barrier: the blocks of the other device's receive buffer that this device will write. -/
def barBlock (c : Dev nD) (i : Fin 8) : sProp 𝕄 :=
  if p.sAct c i then iprop(some' (pr c) (part rbM i) ∗ reached ER (rcvCell (pr c) i) 0) else iprop(emp)

/-- What a payment hands over. -/
def pay (c : Dev nD) : Role → sProp 𝕄
  | .bar => bigSep Finset.univ fun i => barBlock p c i
  | .x => iprop(owns (c : Thread nD τ) xvM fullShare (p.x c) ∗ owns (c : Thread nD τ) xM fullShare (p.x c))
  | .d => iprop(owns (c : Thread nD τ) dvM fullShare (p.d c) ∗ owns (c : Thread nD τ) dM fullShare (p.d c))
  | .send i => some' c (part sbM i)
  | .recv i => owns (c : Thread nD τ) (part rbM i) fullShare (p.sent (pr c) i)
  | .other => iprop(emp)

def rd : Rounds.Schedule (GSem nD τ sig) Unit 𝕄 where
  duties g r := if r = 0 ∧ g.1.2 = .tc ∧ live p g.1.1 (role g.2) = true then {()} else ∅
  unitless _ := False
  amount g _ _ := amt (role g.2)
  payload g _ _ := pay p g.1.1 (role g.2)
  amount_pos g _ _ _ := amt_pos _

instance pay_storable (c : Dev nD) (r : Role) : BI.Storable (upEmb : UEmb _ 𝕄) (pay p c r) := by
  cases r with
  | bar =>
    show BI.Storable upEmb (bigSep Finset.univ fun i => barBlock p c i)
    have (i : Fin 8) : BI.Storable (upEmb : UEmb _ 𝕄) (barBlock p c i) := by unfold barBlock; split <;> infer_instance
    infer_instance
  | _ => unfold pay; infer_instance

instance rd_storable (g : GSem nD τ sig) (r : ℕ) (d : Unit) : BI.Storable (upEmb : UEmb _ 𝕄) ((rd p).payload g r d) :=
  inferInstanceAs (BI.Storable upEmb (pay p g.1.1 (role g.2)))

variable (c : Dev nD)

theorem duties_of {s : SemLoc sig} {r : Role} (hs : role s = r) (hl : live p c r = true) :
    (rd p).duties ((c : Thread nD τ), s) 0 = {()} := by
  dsimp only [rd]; exact if_pos ⟨rfl, rfl, by rw [hs]; exact hl⟩
theorem duties_not {s : SemLoc sig} {r : Role} (hs : role s = r) (hl : live p c r = false) (k : ℕ) :
    (rd p).duties ((c : Thread nD τ), s) k = ∅ := by
  dsimp only [rd]; exact if_neg fun h => by
    rw [hs] at h; exact Bool.false_ne_true (hl.symm.trans h.2.2)
theorem duties_later (g : GSem nD τ sig) : ∀ r, 1 ≤ r → (rd p).duties g r = ∅ :=
  fun r hr => by dsimp only [rd]; exact if_neg fun h => by omega
theorem mem_of {s : SemLoc sig} {r : Role} (hs : role s = r) (hl : live p c r = true) :
    () ∈ (rd p).duties ((c : Thread nD τ), s) 0 := by rw [duties_of p c hs hl]; exact Finset.mem_singleton_self _
theorem amount_of {s : SemLoc sig} {r : Role} (hs : role s = r) (k : ℕ) (u : Unit) :
    (rd p).amount ((c : Thread nD τ), s) k u = amt r := by dsimp only [rd]; rw [hs]
theorem payload_of {s : SemLoc sig} {r : Role} (hs : role s = r) (k : ℕ) (u : Unit) :
    (rd p).payload ((c : Thread nD τ), s) k u = pay p c r := by dsimp only [rd]; rw [hs]
theorem expect_of {s : SemLoc sig} {r : Role} (hs : role s = r) (hl : live p c r = true) :
    (rd p).expect ((c : Thread nD τ), s) 0 = amt r := by
  unfold Schedule.expect Schedule.amountOf; rw [duties_of p c hs hl, Finset.sum_singleton, amount_of p c hs]
theorem rest_of {s : SemLoc sig} {r : Role} (hs : role s = r) (hl : live p c r = true) :
    bigSep ((rd p).duties ((c : Thread nD τ), s) 0 \ ∅) (fun u => (rd p).payload ((c : Thread nD τ), s) 0 u) = pay p c r := by
  rw [Finset.sdiff_empty, duties_of p c hs hl, bigSep_singleton, payload_of p c hs]

/-- A cell whose one payment has been taken is closed. -/
theorem close_paid (κ : ℕ) (g : GSem nD τ sig) :
    iprop(cellInv ER (rd p) κ g ∗ atPos ER g (0 + 1) ∅ 0) ⊢ (|={Set.univ}=> semVal g 0 : sProp 𝕄) :=
  Rounds.cell_close ER (rd p) (Set.mem_univ κ) id (duties_later p g)
/-- A cell that is never paid is closed. -/
theorem close_unpaid (κ : ℕ) {s : SemLoc sig} {r : Role} (hs : role s = r) (hl : live p c r = false) :
    iprop(cellInv ER (rd p) κ ((c : Thread nD τ), s) ∗ atPos ER ((c : Thread nD τ), s) 0 ∅ 0)
      ⊢ (|={Set.univ}=> semVal ((c : Thread nD τ), s) 0 : sProp 𝕄) :=
  Rounds.cell_close ER (rd p) (Set.mem_univ κ) id (fun k _ => duties_not p c hs hl k)

end Sched

/-! ## What each device owes at launch; the levels -/

section Owed

variable (p : Plan F)

/-- The receive counts device `c` still owes when the blocks before `k` have been sent. -/
def owed (c : Dev nD) (k : ℕ) : CellTallies nD τ sig Unit :=
  ∑ i : Fin 8, if k ≤ i.val ∧ p.sAct c i = true then tallyAt (rcvCell (pr c) i) () N else 0

/-- What device `c` owes at launch: the barrier unit and every receive count. -/
def O₀ (c : Dev nD) : CellTallies nD τ sig Unit := owed p c 0 + tallyAt (barCell (pr c)) () 1

theorem owed_end (c : Dev nD) : owed p c 8 = 0 :=
  Finset.sum_eq_zero fun i _ => if_neg fun h => by have := i.isLt; omega

theorem owed_step (c : Dev nD) (i : Fin 8) :
    owed p c i.val = owed p c (i.val + 1) + (if p.sAct c i = true then tallyAt (rcvCell (pr c) i) () N else 0) := by
  unfold owed
  have h : ∀ j : Fin 8, (if i.val ≤ j.val ∧ p.sAct c j = true then tallyAt (rcvCell (pr c) j) () N else (0 : CellTallies nD τ sig Unit))
      = (if i.val + 1 ≤ j.val ∧ p.sAct c j = true then tallyAt (rcvCell (pr c) j) () N else 0)
        + (if j = i then (if p.sAct c j = true then tallyAt (rcvCell (pr c) j) () N else 0) else 0) := by
    intro j
    by_cases hj : j = i
    · subst hj
      rw [if_neg (fun h => by omega : ¬ (j.val + 1 ≤ j.val ∧ p.sAct c j = true)), if_pos rfl, zero_add]
      simp only [le_refl, true_and]
    · have hne : j.val ≠ i.val := fun h => hj (Fin.ext h)
      rw [if_neg hj, add_zero]
      refine if_congr (and_congr_left' ?_) rfl rfl
      omega
  rw [Finset.sum_congr rfl fun j _ => h j, Finset.sum_add_distrib, Finset.sum_ite_eq' Finset.univ i, if_pos (Finset.mem_univ i)]

/-- The barrier is waited on first, then the receive semaphores. -/
def L (g : GSem nD τ sig) : Finset Unit := if g.1.2 = .tc then {()} else ∅
def lvOf : Role → ℕ | .bar => 1 | .recv _ => 2 | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem owed_apply (c : Dev nD) (k : ℕ) (g : GSem nD τ sig) (u : Unit) :
    owed p c k g u = ∑ i : Fin 8, if (k ≤ i.val ∧ p.sAct c i = true) ∧ g = rcvCell (pr c) i then N else 0 := by
  unfold owed
  rw [Finset.sum_apply, Finsupp.finset_sum_apply]
  refine Finset.sum_congr rfl fun i _ => ?_
  by_cases h : k ≤ i.val ∧ p.sAct c i = true
  · rw [if_pos h, tallyAt_apply]
    exact if_congr ⟨fun h' => ⟨h, h'.1⟩, fun h' => ⟨h'.2, rfl⟩⟩ rfl rfl
  · rw [if_neg h, if_neg fun h' => h h'.1]; rfl

theorem owed_pos {c : Dev nD} {k : ℕ} {g : GSem nD τ sig} {u : Unit} (h : 0 < owed p c k g u) : ∃ i, g = rcvCell (pr c) i := by
  by_contra hn
  push Not at hn
  rw [owed_apply, Finset.sum_eq_zero fun i _ => if_neg fun h' => hn i h'.2] at h
  exact absurd h (Nat.lt_irrefl 0)

theorem O₀_pos {c : Dev nD} {g : GSem nD τ sig} {u : Unit} (h : 0 < O₀ p c g u) :
    (∃ i, g = rcvCell (pr c) i) ∨ g = barCell (pr c) := by
  unfold O₀ at h
  rw [Pi.add_apply, Finsupp.add_apply] at h
  rcases Nat.add_pos_iff_pos_or_pos.mp h with h | h
  · exact .inl (owed_pos p h)
  · rw [tallyAt_apply] at h
    split at h
    · next hg => exact .inr hg.1
    · exact absurd h (Nat.lt_irrefl 0)

/-- While the receive counts are owed, the barrier may be waited on. -/
theorem mayWait_bar (c : Dev nD) : (levAts L lv : sProp 𝕄) ⊢ MayWait (c : Thread nD τ) (.reg barS) () (owed p c 0) :=
  MayOwe.of_cut (L := L) (lev := lv) 1 (fun q hq => by rw [Finset.mem_singleton.mp hq, L_tc]; exact Finset.mem_singleton_self _)
    (fun g u hg => by obtain ⟨i, rfl⟩ := owed_pos p hg; rw [L_tc]; exact Finset.mem_singleton_self _)
    (fun q hq => by rw [Finset.mem_singleton.mp hq]; dsimp only [lv]; rw [role_bar]; exact le_rfl)
    (fun g u hg => by obtain ⟨i, rfl⟩ := owed_pos p hg; dsimp only [lv]; rw [role_rcv]; exact Nat.one_lt_two)

/-- The copies of the device's own inputs may be waited on. -/
theorem mayWait_own (c : Dev nD) (s : SemLoc sig) (hs : lvOf (role s) = 0) :
    (levAts L lv : sProp 𝕄) ⊢ MayWait (c : Thread nD τ) s () (owed p c 0) :=
  MayOwe.of_cut (L := L) (lev := lv) 1 (fun q hq => by rw [Finset.mem_singleton.mp hq, L_tc]; exact Finset.mem_singleton_self _)
    (fun g u hg => by obtain ⟨i, rfl⟩ := owed_pos p hg; rw [L_tc]; exact Finset.mem_singleton_self _)
    (fun q hq => by rw [Finset.mem_singleton.mp hq]; dsimp only [lv]; omega)
    (fun g u hg => by obtain ⟨i, rfl⟩ := owed_pos p hg; dsimp only [lv]; rw [role_rcv]; exact Nat.one_lt_two)

end Owed

end Cert.Trade
-- ==== Proof.Count.lean ====
/-
Counting the rows that leave: the total and the running count as numbers, and the words made of them.
-/
module

public import proofs.«01_k».proof.Proof.Protocol
public import Idealize.ShloMosaic.Lib.IndicatorCount
public import Idealize.ShloMosaic.Lib.Routing.Count
public import Idealize.ShloMosaic.Lib.Pointwise.Reduce
public import Idealize.ShloMosaic.Lib.Pipeline.Value

@[expose] public section

noncomputable section

namespace Cert.Trade

open Idealize.ShloMosaic Idealize.SL.Sem
open Cert.KernelIdeal Cert.KernelIdeal.Gen

variable {F : FTy → Type} [FloatOps F]

/-! ## The marks -/

/-- Row `k` of the device's half leaves it. -/
def Leaves (c : Dev nD) (d : IVec S1x1024 32) (k : ℕ) : Prop := ∃ h : k < 1024, d (ix2 0 ⟨k, h⟩) ≠ meW c

instance (c : Dev nD) (d : IVec S1x1024 32) : DecidablePred (Leaves c d) := fun k => by unfold Leaves; infer_instance

theorem leaves_iff (c : Dev nD) (d : IVec S1x1024 32) (j : Fin 1024) :
    leaves (F := F) c d (ix2 0 j) = 1#1 ↔ Leaves c d j.val := by
  show BitVec.ofBool (d (ix2 0 j) != meW c) = 1#1 ↔ _
  have e : Leaves c d j.val ↔ d (ix2 0 j) ≠ meW c := ⟨fun ⟨_, h⟩ => h, fun h => ⟨j.isLt, h⟩⟩
  rw [e]
  by_cases h : d (ix2 0 j) = meW c
  · simp [h]
  · rw [show (d (ix2 0 j) != meW c) = true from bne_iff_ne.mpr h]
    exact ⟨fun _ => h, fun _ => rfl⟩

/-- How many of the rows before row `k` leave. -/
def ahead (c : Dev nD) (d : IVec S1x1024 32) (k : ℕ) : ℕ := Nat.count (Leaves c d) k

theorem ahead_le (c : Dev nD) (d : IVec S1x1024 32) (k : ℕ) : ahead c d k ≤ k := Nat.count_le _

/-! ## The total -/

theorem leaveW_eq (c : Dev nD) (d : IVec S1x1024 32) : leaveW (F := F) c d = BitVec.ofNat 32 (ahead c d 1024) := by
  have hsub : ∀ i j : S1.Idx, i = j := fun i j => by
    funext a; match a with | ⟨0, _⟩ => exact Subsingleton.elim (α := Fin 1) _ _
  unfold leaveW
  show reduceFold reduces_S1x1x1024_S1 IntOp.addi 0#32 (shapeCast S1x1x1024 (k0_pay2 (F := F) c d) shapeCasts_S1x1024_S1x1x1024) _ = _
  rw [reduceFold_eq_fold,
    Finset.fold_filter_eq_fold_of_fiber IntOp.addi _ (fun k : Fin 1024 => (ix3 0 0 k : S1x1x1024.Idx))
      (fun _ _ e => congrFun e 2) (fun i => ⟨fun _ => ⟨i 2, ?_⟩, fun _ => hsub _ _⟩)]
  · have hc : (fun k : Fin 1024 => shapeCast S1x1x1024 (k0_pay2 (F := F) c d) shapeCasts_S1x1024_S1x1x1024 (ix3 0 0 k))
        = fun k => (leaves (F := F) c d (ix2 0 k)).setWidth 32 := by
      funext k
      rw [shapeCast_apply _ _ _ (ix2 0 k) (by rw [Shape.rowMajor_val_two, Shape.rowMajor_val_three]; simp)]
      rfl
    rw [hc, IndicatorCount.fold_addi_setWidth_eq_card]
    unfold ahead
    rw [← Routing.card_filter_fin]
    simp only [leaves_iff]
  · funext a; apply Fin.ext
    match a with
    | ⟨0, _⟩ => have := (i 0).isLt; simp at this; simp [this]
    | ⟨1, _⟩ => have := (i 1).isLt; simp at this; simp [this]
    | ⟨2, _⟩ => rfl

theorem leaveW_toNat (c : Dev nD) (d : IVec S1x1024 32) : (leaveW (F := F) c d).toNat = ahead c d 1024 := by
  have := ahead_le c d 1024
  rw [leaveW_eq, BitVec.toNat_ofNat, Nat.mod_eq_of_lt (by omega)]
theorem leaveW_le (c : Dev nD) (d : IVec S1x1024 32) : (leaveW (F := F) c d).toNat ≤ 1024 := by
  rw [leaveW_toNat]; exact ahead_le c d 1024

/-! ## The running count -/

/-- The rows' numbers. -/
abbrev rowNo : IVec S1x1024 32 := iota .tc S1x1024 32 [1] iota_S1x1024_d1_w32

/-- One doubling: each row adds what the row `k` before it holds. -/
def double (k : BitVec 32) (v : IVec S1x1024 32) : IVec S1x1024 32 :=
  addi v (select (cmpi .sge rowNo (broadcast S1x1024 k)) (dynamicRotate 1 k none v rotates_S1x1024_d1) (broadcast S1x1024 0#32))

theorem sge_small {a b : ℕ} (ha : a < 2 ^ 20) (hb : b < 2 ^ 20) :
    IntOp.cmpi .sge (BitVec.ofNat 32 a) (BitVec.ofNat 32 b) = BitVec.ofBool (decide (b ≤ a)) := by
  show BitVec.ofBool ((BitVec.ofNat 32 b).sle (BitVec.ofNat 32 a)) = _
  rw [BitVec.sle_eq_decide, BitVec.toInt_ofNat', BitVec.toInt_ofNat', Int.bmod_eq_of_le (by omega) (by omega), Int.bmod_eq_of_le (by omega) (by omega)]
  simp
theorem slt_small {a b : ℕ} (ha : a < 2 ^ 20) (hb : b < 2 ^ 20) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, BitVec.toInt_ofNat', BitVec.toInt_ofNat', Int.bmod_eq_of_le (by omega) (by omega), Int.bmod_eq_of_le (by omega) (by omega)]
  simp

theorem rowNo_apply (j : Fin 1024) : rowNo (ix2 0 j) = BitVec.ofNat 32 j.val := by
  exact iota_single_apply .tc S1x1024 32 1 iota_S1x1024_d1_w32 (ix2 0 j)

theorem double_apply (k : ℕ) (hk : k < 1024) (v : IVec S1x1024 32) (g : ℕ → ℕ)
    (hv : ∀ j : Fin 1024, v (ix2 0 j) = BitVec.ofNat 32 (g (j.val + 1) - g (j.val + 1 - k))) (hg : Monotone g) (j : Fin 1024) :
    double (BitVec.ofNat 32 k) v (ix2 0 j) = BitVec.ofNat 32 (g (j.val + 1) - g (j.val + 1 - 2 * k)) := by
  show v (ix2 0 j) + (Scalar.select (IntOp.cmpi .sge (rowNo (ix2 0 j)) (BitVec.ofNat 32 k))
    (dynamicRotate 1 (BitVec.ofNat 32 k) none v rotates_S1x1024_d1 (ix2 0 j)) 0#32) = _
  have hj := j.isLt
  rw [rowNo_apply, sge_small (by omega) (by omega)]
  by_cases h : k ≤ j.val
  · have hr : dynamicRotate 1 (BitVec.ofNat 32 k) none v rotates_S1x1024_d1 (ix2 0 j) = v (ix2 0 ⟨j.val - k, by omega⟩) := by
      unfold dynamicRotate
      refine congrArg v (funext fun a => Fin.ext ?_)
      match a with
      | ⟨0, _⟩ => rfl
      | ⟨1, _⟩ =>
        have hkn : (BitVec.ofNat 32 k).toNat = k := by rw [BitVec.toNat_ofNat]; exact Nat.mod_eq_of_lt (by omega)
        show (j.val + 1024 - ((BitVec.ofNat 32 k).toNat + 0) % 1024) % 1024 = j.val - k
        rw [hkn]; omega
    rw [decide_eq_true h, hr, hv, hv]
    show BitVec.ofNat 32 _ + BitVec.ofNat 32 _ = _
    rw [← BitVec.ofNat_add]
    congr 1
    show g (j.val + 1) - g (j.val + 1 - k) + (g (j.val - k + 1) - g (j.val - k + 1 - k)) = _
    have e1 : j.val - k + 1 = j.val + 1 - k := by omega
    have e2 : j.val + 1 - k - k = j.val + 1 - 2 * k := by omega
    rw [e1, e2]
    have m1 : g (j.val + 1 - k) ≤ g (j.val + 1) := hg (by omega)
    have m2 : g (j.val + 1 - 2 * k) ≤ g (j.val + 1 - k) := hg (by omega)
    omega
  · rw [decide_eq_false h, hv]
    show BitVec.ofNat 32 _ + 0#32 = _
    rw [BitVec.add_zero]
    have e1 : j.val + 1 - k = 0 ∨ j.val + 1 - k = j.val + 1 - 2 * k := by omega
    have e2 : j.val + 1 - k = j.val + 1 - 2 * k := by omega
    rw [e2]

/-- The running count, all ten doublings made. -/
abbrev countW (c : Dev nD) (d : IVec S1x1024 32) : IVec S1x1024 32 := k0_pay9 rowNo (count256 (F := F) c d) k0_pay8

theorem countW_apply (c : Dev nD) (d : IVec S1x1024 32) (j : Fin 1024) :
    countW (F := F) c d (ix2 0 j) = BitVec.ofNat 32 (ahead c d (j.val + 1)) := by
  have hg : Monotone (ahead c d) := fun _ _ h => Nat.count_monotone _ h
  have h0 : ∀ j : Fin 1024, k0_pay2 (F := F) c d (ix2 0 j) = BitVec.ofNat 32 (ahead c d (j.val + 1) - ahead c d (j.val + 1 - 1)) := by
    intro j
    show (leaves (F := F) c d (ix2 0 j)).setWidth 32 = _
    have e : ahead c d (j.val + 1) - ahead c d (j.val + 1 - 1) = if Leaves c d j.val then 1 else 0 := by
      unfold ahead; rw [Nat.count_succ]; simp
    rw [e]
    by_cases h : Leaves c d j.val
    · rw [if_pos h, (leaves_iff c d j).mpr h]; rfl
    · have hb : leaves (F := F) c d (ix2 0 j) = 0#1 := by
        have := mt (leaves_iff (F := F) c d j).mp h
        generalize leaves (F := F) c d (ix2 0 j) = b at this
        revert this; revert b; decide
      rw [if_neg h, hb]; rfl
  have step := fun k hk v hv => double_apply k hk v (ahead c d) hv hg
  have h := step 512 (by omega) _ (step 256 (by omega) _ (step 128 (by omega) _ (step 64 (by omega) _ (step 32 (by omega) _
    (step 16 (by omega) _ (step 8 (by omega) _ (step 4 (by omega) _ (step 2 (by omega) _ (step 1 (by omega) _ h0))))))))) j
  have e : j.val + 1 - 2 * 512 = 0 := by omega
  rw [e] at h
  refine Eq.trans ?_ (h.trans ?_)
  · rfl
  · simp [ahead]

/-! ## Blocks -/

theorem floor128_small : ∀ k : Fin 1300, floor128 (BitVec.ofNat 32 k.val) = BitVec.ofNat 32 (k.val / 128) := by decide +kernel

/-- Block `i` is touched exactly when one of its rows is among the `n` rows from row `s` on. -/
theorem touches_small {s n : ℕ} (h : s + n ≤ 1024) (i : Fin 8) :
    touches (BitVec.ofNat 32 s) (BitVec.ofNat 32 n) i = decide (s / 128 ≤ i.val ∧ i.val < (s + n + 127) / 128) := by
  have hi := i.isLt
  have e1 : firstBlock (BitVec.ofNat 32 s) = BitVec.ofNat 32 (s / 128) := floor128_small ⟨s, by omega⟩
  have e2 : endBlock (BitVec.ofNat 32 s) (BitVec.ofNat 32 n) = BitVec.ofNat 32 ((s + n + 127) / 128) := by
    unfold endBlock
    rw [← floor128_small ⟨s + n + 127, by omega⟩]
    congr 1
    show BitVec.ofNat 32 s + BitVec.ofNat 32 n + BitVec.ofNat 32 128 - 1#32 = _
    rw [← BitVec.ofNat_add, ← BitVec.ofNat_add]
    apply BitVec.eq_of_toNat_eq
    rw [BitVec.toNat_sub, BitVec.toNat_ofNat, BitVec.toNat_ofNat]
    simp only [BitVec.toNat_ofNat]
    omega
  have e3 : ∀ a b k : Fin 16, touchBit (BitVec.ofNat 32 a.val) (BitVec.ofNat 32 b.val) (BitVec.ofNat 32 k.val)
      = BitVec.ofBool (decide (a.val ≤ k.val ∧ k.val < b.val)) := by decide +kernel
  unfold touches
  rw [e1, e2, e3 ⟨s / 128, by omega⟩ ⟨(s + n + 127) / 128, by omega⟩ ⟨i.val, by omega⟩]
  by_cases hc : s / 128 ≤ i.val ∧ i.val < (s + n + 127) / 128
  · simp [hc]
  · simp [hc]

/-- The device is in the half that gets the rows of `dest` 0. -/
def lower (c : Dev nD) : Bool := decide (meW c = 0#32)

theorem meW_of (c : Dev nD) : meW c = if lower c = true then 0#32 else 1#32 := by
  revert c; decide +kernel
theorem lower_pr (c : Dev nD) : lower (pr c) = !lower c := by revert c; decide +kernel

theorem meBit (c : Dev nD) : Scalar.cmpi .eq (meW c) 0#32 = BitVec.ofBool (lower c) := by revert c; decide +kernel

/-- The first row of the other device's result that this device's rows take. -/
def outAt (c : Dev nD) (n : ℕ) : ℕ := if lower c = true then 0 else 1024 - n
/-- The first row of this device's result that comes from the other device. -/
def inAt (c : Dev nD) (n : ℕ) : ℕ := if lower c = true then 1024 - n else 0

theorem sub_small {a b : ℕ} (h : b ≤ a) (ha : a < 2 ^ 20) : BitVec.ofNat 32 a - BitVec.ofNat 32 b = BitVec.ofNat 32 (a - b) := by
  apply BitVec.eq_of_toNat_eq
  rw [BitVec.toNat_sub]
  simp only [BitVec.toNat_ofNat]
  omega

theorem outStart_eq (c : Dev nD) {n : ℕ} (h : n ≤ 1024) : outStart c (BitVec.ofNat 32 n) = BitVec.ofNat 32 (outAt c n) := by
  unfold outStart outAt
  rw [meBit]
  cases lower c
  · exact sub_small h (by omega)
  · rfl
theorem inStart_eq (c : Dev nD) {n : ℕ} (h : n ≤ 1024) : inStart c (BitVec.ofNat 32 n) = BitVec.ofNat 32 (inAt c n) := by
  unfold inStart inAt
  rw [meBit]
  cases lower c
  · rfl
  · exact sub_small h (by omega)

theorem inAt_le (c : Dev nD) {n : ℕ} (h : n ≤ 1024) : inAt c n + n ≤ 1024 := by unfold inAt; split <;> omega

/-- Block `i` holds rows that come exactly when it is received. -/
theorem comes_eq (c : Dev nD) {n : ℕ} (h : n ≤ 1024) (i : Fin 8) :
    comes c (BitVec.ofNat 32 n) i = decide (inAt c n / 128 ≤ i.val ∧ i.val < (inAt c n + n + 127) / 128) := by
  unfold comes; rw [inStart_eq c h, touches_small (inAt_le c h)]

/-! ## A block of the result -/

theorem add_small (a b : ℕ) : BitVec.ofNat 32 a + BitVec.ofNat 32 b = BitVec.ofNat 32 (a + b) := (BitVec.ofNat_add a b).symm

/-- The mask of the rows that come: row `r` of block `i`. -/
def comesBit (n r : BitVec 32) (i : Fin 8) (a : Fin 128) : BitVec 1 :=
  IntOp.andi (IntOp.cmpi .sge (BitVec.ofNat 32 a.val + BitVec.ofNat 32 (128 * i.val)) r)
    (IntOp.cmpi .slt (BitVec.ofNat 32 a.val + BitVec.ofNat 32 (128 * i.val)) (Scalar.addi r n))

theorem comesBit_eq {n r : ℕ} (h : r + n ≤ 1024) (i : Fin 8) (a : Fin 128) :
    comesBit (BitVec.ofNat 32 n) (BitVec.ofNat 32 r) i a = BitVec.ofBool (decide (r ≤ 128 * i.val + a.val ∧ 128 * i.val + a.val < r + n)) := by
  have hi := i.isLt
  have ha := a.isLt
  unfold comesBit
  show IntOp.andi (IntOp.cmpi .sge _ _) (IntOp.cmpi .slt _ (BitVec.ofNat 32 r + BitVec.ofNat 32 n)) = _
  rw [add_small, add_small, sge_small (by omega) (by omega), slt_small (by omega) (by omega), Nat.add_comm a.val]
  by_cases h1 : r ≤ 128 * i.val + a.val <;> by_cases h2 : 128 * i.val + a.val < r + n <;> simp [h1, h2] <;> rfl

theorem blockRow (a : Fin 128) : blockRows (ix2 a 0) = BitVec.ofNat 32 a.val := iota_single_apply .tc S128x1 32 0 iota_S128x1_d0_w32 (ix2 a 0)

/-- What one block's last select does, over the block's first row. -/
def merge (o : ℕ) (hs : Shape.Slices ⟨2, ![1024, 512]⟩ ![o, 0] ⟨2, ![128, 512]⟩) (n r : BitVec 32) (w : FVec F S1024x512 .bf16) (v : Vec F S128x512 .bf16) :
    Vec F S128x512 .bf16 :=
  select (broadcastTo S128x512 (shapeCast S128x1 (andi (cmpi .sge (addi blockRows (broadcast S128x1 (BitVec.ofNat 32 o))) (broadcast S128x1 r))
      (cmpi .slt (addi blockRows (broadcast S128x1 (BitVec.ofNat 32 o))) (broadcast S128x1 (Scalar.addi r n)))) shapeCasts_S128x1_S128x1) broadcasts_S128x1_S128x512)
    v (extractStridedSlice S128x512 ![o, 0] w hs)

theorem merge_apply (i : Fin 8) (hs : Shape.Slices ⟨2, ![1024, 512]⟩ ![128 * i.val, 0] ⟨2, ![128, 512]⟩) (n r : BitVec 32)
    (w : FVec F S1024x512 .bf16) (v : Vec F S128x512 .bf16) (a : Fin 128) (b : Fin 512) :
    merge (128 * i.val) hs n r w v (ix2 a b) = Scalar.select (comesBit n r i a) (v (ix2 a b)) (w (ix2 ⟨128 * i.val + a.val, by omega⟩ b)) := by
  unfold merge
  show Scalar.select (broadcastTo S128x512 (shapeCast S128x1 _ shapeCasts_S128x1_S128x1) broadcasts_S128x1_S128x512 (ix2 a b)) _ _ = _
  rw [broadcastTo_apply _ _ _ (ix2 a 0) ?_, shapeCast_self, extractStridedSlice_apply _ _ _ _ (ix2 ⟨128 * i.val + a.val, by omega⟩ b) ?_]
  · show Scalar.select (IntOp.andi (IntOp.cmpi .sge (blockRows (ix2 a 0) + _) r) (IntOp.cmpi .slt (blockRows (ix2 a 0) + _) _)) _ _ = _
    rw [blockRow]; rfl
  · intro k
    match k with
    | ⟨0, _⟩ => rfl
    | ⟨1, _⟩ => exact (Nat.zero_add _).symm
  · intro k
    match k with
    | ⟨0, _⟩ => rfl
    | ⟨1, _⟩ => rfl

theorem outBlock_merge (n r : BitVec 32) (s : IVec S1x1024 32) (x : Vec F S1024x512 .f32) (i : Fin 8) (v : Vec F S128x512 .bf16) :
    outBlock n r s x i v = merge (128 * i.val) (by revert i; decide) n r (kept s x) v := by
  fin_cases i <;> rfl

end Cert.Trade

end
-- ==== Proof.Window.lean ====
/-
The precondition in plain numbers: what it says of `dest`, over the two bounds of the number of rows traded.
-/
module

public import proofs.«01_k».proof.Proof.Count

@[expose] public section

noncomputable section

namespace Cert.Trade

open Idealize.ShloMosaic Idealize.SL.Sem

abbrev D2048 : Shape := ⟨1, ![2048]⟩
abbrev D1024 : Shape := ⟨1, ![1024]⟩
abbrev D0 : Shape := ⟨0, ![]⟩

theorem sum2048 : D2048.ReducesTo [0] D0 := by decide
theorem sum1024 : D1024.ReducesTo [0] D0 := by decide
theorem cut1024 : D2048.Slices ![0] D1024 := by decide
theorem spread2048 : D0.BroadcastsInDim D2048 (![] : Fin 0 → Fin D2048.rank) := by decide
theorem one0 : 0 < D0.numel := by decide

/-- The precondition's word: all entries 0 or 1, 1024 ones, and more than `lo`, at most `hi`, of them in the first half. -/
def tradesBit (lo hi : BitVec 32) (d : IVec D2048 32) : IVec D0 1 :=
  let n := Host.reduce IntOp.addi (extractStridedSlice D1024 ![0] d cut1024) (constantI D0 32 0#32) sum1024 one0
  let bin := Host.reduce IntOp.andi (ori (cmpi .eq d (broadcastInDim D2048 ![] spread2048 (constantI D0 32 0#32)))
    (cmpi .eq d (broadcastInDim D2048 ![] spread2048 (constantI D0 32 1#32)))) (constantI D0 1 1#1) sum2048 one0
  let all := cmpi .eq (Host.reduce IntOp.addi d (constantI D0 32 0#32) sum2048 one0) (constantI D0 32 1024#32)
  andi (andi (andi bin all) (cmpi .sgt n (constantI D0 32 lo))) (cmpi .sle n (constantI D0 32 hi))

/-- Row `k` goes to block 1. -/
def One (d : IVec D2048 32) (k : ℕ) : Prop := ∃ h : k < 2048, d (ix1 ⟨k, h⟩) = 1#32

instance (d : IVec D2048 32) : DecidablePred (One d) := fun k => by unfold One; infer_instance

/-- What the precondition says: the rows that each half sends to the other fill `q` blocks, the last perhaps in part. -/
structure Trades (q : ℕ) (d : IVec D2048 32) : Prop where
  bin : ∀ k : Fin 2048, d (ix1 k) = 0#32 ∨ d (ix1 k) = 1#32
  total : Nat.count (One d) 2048 = 1024
  above : 128 * q < Nat.count (One d) 1024 + 128
  below : Nat.count (One d) 1024 ≤ 128 * q

theorem fold_and (S : Finset (Fin 2048)) (f : Fin 2048 → BitVec 1) (h : S.fold IntOp.andi 1#1 f = 1#1) : ∀ k ∈ S, f k = 1#1 := by
  classical
  induction S using Finset.induction_on with
  | empty => intro k hk; exact absurd hk (Finset.notMem_empty k)
  | insert a S ha ih =>
    rw [Finset.fold_insert ha] at h
    have both : ∀ x y : BitVec 1, IntOp.andi x y = 1#1 → x = 1#1 ∧ y = 1#1 := by decide
    obtain ⟨h1, h2⟩ := both _ _ h
    intro k hk
    rcases Finset.mem_insert.mp hk with rfl | hk
    · exact h1
    · exact ih h2 k hk

/-- The sum of zeros and ones is the number of ones. -/
theorem sum_ones {n : ℕ} (h : Shape.ReducesTo ⟨1, ![n]⟩ [0] D0) (v : IVec ⟨1, ![n]⟩ 32) (Q : ℕ → Prop) [DecidablePred Q]
    (hv : ∀ k : Fin n, v (ix1 k) = if Q k.val then 1#32 else 0#32) (j : D0.Idx) :
    Host.reduce IntOp.addi v (constantI D0 32 0#32) h one0 j = BitVec.ofNat 32 (Nat.count Q n) := by
  rw [Host.reduce_eq_fold, h.fold_fiber_r1_a0]
  have e : (fun k : Fin n => v (ix1 k)) = fun k => (BitVec.ofBool (decide (Q k.val))).setWidth 32 := by
    funext k; rw [hv]; by_cases hq : Q k.val <;> simp [hq] <;> rfl
  rw [e]
  refine (IndicatorCount.fold_addi_setWidth_eq_card _ _).trans ?_
  rw [← Routing.card_filter_fin]
  congr 2
  ext k
  by_cases hq : Q k.val <;> simp [hq]

theorem trades_of {q : ℕ} {lo hi : BitVec 32} {d : IVec D2048 32} (hlo : lo.toInt = 128 * q - 128) (hhi : hi.toInt = 128 * q)
    (h : tradesBit lo hi d = fun _ => 1#1) : Trades q d := by
  have h0 := congrFun h (Shape.Idx.first one0)
  have both : ∀ x y : BitVec 1, IntOp.andi x y = 1#1 → x = 1#1 ∧ y = 1#1 := by decide
  obtain ⟨h1, hle⟩ := both _ _ h0
  obtain ⟨h2, hgt⟩ := both _ _ h1
  obtain ⟨hbin, hall⟩ := both _ _ h2
  have bin : ∀ k : Fin 2048, d (ix1 k) = 0#32 ∨ d (ix1 k) = 1#32 := by
    intro k
    rw [Host.reduce_eq_fold, sum2048.fold_fiber_r1_a0] at hbin
    have hk := fold_and _ _ hbin k (Finset.mem_univ k)
    have hk' : BitVec.ofBool (d (ix1 k) == 0#32) ||| BitVec.ofBool (d (ix1 k) == 1#32) = 1#1 := hk
    by_cases e0 : d (ix1 k) = 0#32
    · exact Or.inl e0
    · by_cases e1 : d (ix1 k) = 1#32
      · exact Or.inr e1
      · rw [beq_eq_false_iff_ne.mpr e0, beq_eq_false_iff_ne.mpr e1] at hk'
        exact absurd hk' (by decide)
  have val : ∀ (k : ℕ) (hk : k < 2048), d (ix1 ⟨k, hk⟩) = if One d k then 1#32 else 0#32 := by
    intro k hk
    by_cases e : One d k
    · rw [if_pos e]; exact e.2
    · rw [if_neg e]; exact (bin ⟨k, hk⟩).resolve_right fun h => e ⟨hk, h⟩
  have c1 : Nat.count (One d) 1024 ≤ 1024 := Nat.count_le _
  have c2 : Nat.count (One d) 2048 ≤ 2048 := Nat.count_le _
  have hn := sum_ones sum1024 (extractStridedSlice D1024 ![0] d cut1024) (One d) (fun k => by
    rw [← val k.val (by omega)]
    exact extractStridedSlice_apply _ _ _ _ _ (fun a => by
      match a with
      | ⟨0, _⟩ => exact (Nat.zero_add _).symm)) (Shape.Idx.first one0)
  have ha := sum_ones sum2048 d (One d) (fun k => val k.val k.isLt) (Shape.Idx.first one0)
  have hall' : BitVec.ofBool (Host.reduce IntOp.addi d (constantI D0 32 0#32) sum2048 one0 (Shape.Idx.first one0) == 1024#32) = 1#1 := hall
  have hgt' : BitVec.ofBool (lo.slt (Host.reduce IntOp.addi (extractStridedSlice D1024 ![0] d cut1024) (constantI D0 32 0#32) sum1024 one0 (Shape.Idx.first one0))) = 1#1 := hgt
  have hle' : BitVec.ofBool ((Host.reduce IntOp.addi (extractStridedSlice D1024 ![0] d cut1024) (constantI D0 32 0#32) sum1024 one0 (Shape.Idx.first one0)).sle hi) = 1#1 := hle
  have bit : ∀ b : Bool, BitVec.ofBool b = 1#1 → b = true := by decide
  rw [ha] at hall'
  rw [hn] at hgt' hle'
  have e1 := eq_of_beq (bit _ hall')
  have e2 := bit _ hgt'
  have e3 := bit _ hle'
  have e1' := congrArg BitVec.toNat e1
  rw [BitVec.toNat_ofNat] at e1'
  rw [BitVec.slt_eq_decide, BitVec.toInt_ofNat', Int.bmod_eq_of_le (by omega) (by omega), hlo] at e2
  rw [BitVec.sle_eq_decide, BitVec.toInt_ofNat', Int.bmod_eq_of_le (by omega) (by omega), hhi] at e3
  have e2' := of_decide_eq_true e2
  have e3' := of_decide_eq_true e3
  exact ⟨bin, by simpa [Nat.mod_eq_of_lt (by omega : Nat.count (One d) 2048 < 4294967296)] using e1', by omega, by omega⟩

end Cert.Trade

end
-- ==== Proof.Pairs.lean ====
/-
The counts of a pair: each device counts in its own half, and both find the same number of blocks to trade. So a block is received
exactly when it is sent, and a block that is not received is not read.
-/
module

public import proofs.«01_k».proof.Proof.Window

@[expose] public section

noncomputable section

namespace Cert.Trade

open Idealize.ShloMosaic Idealize.SL.Sem
open Cert.KernelIdeal Cert.KernelIdeal.Gen

variable {F : FTy → Type} [FloatOps F]

/-- The first row of the device's half. -/
def halfAt (c : Dev nD) : ℕ := if lower c = true then 0 else 1024

theorem halfAt_le (c : Dev nD) (k : Fin 1024) : halfAt c + k.val < 2048 := by unfold halfAt; split <;> omega

/-- `d` is the device's half of `D`. -/
def Half (c : Dev nD) (d : IVec S1x1024 32) (D : IVec D2048 32) : Prop := ∀ k : Fin 1024, d (ix2 0 k) = D (ix1 ⟨halfAt c + k.val, halfAt_le c k⟩)

variable {c : Dev nD} {d : IVec S1x1024 32} {D : IVec D2048 32} {q : ℕ}

theorem leaves_lower (hd : Half c d D) (hD : Trades q D) (hl : lower c = true) {k : ℕ} (hk : k < 1024) : Leaves c d k ↔ One D k := by
  have e : d (ix2 0 ⟨k, hk⟩) = D (ix1 ⟨k, by omega⟩) := by
    rw [hd]; congr 2; apply Fin.ext; show halfAt c + k = k; unfold halfAt; rw [if_pos hl]; exact Nat.zero_add k
  have hm := meW_of c
  rw [if_pos hl] at hm
  constructor
  · rintro ⟨_, h⟩
    rw [e, hm] at h
    exact ⟨by omega, (hD.bin ⟨k, by omega⟩).resolve_left h⟩
  · rintro ⟨_, h⟩
    refine ⟨hk, ?_⟩
    rw [e, hm, h]; decide

theorem leaves_upper (hd : Half c d D) (hD : Trades q D) (hl : lower c = false) {k : ℕ} (hk : k < 1024) :
    Leaves c d k ↔ ¬ One D (1024 + k) := by
  have hl' : ¬ lower c = true := by rw [hl]; decide
  have e : d (ix2 0 ⟨k, hk⟩) = D (ix1 ⟨1024 + k, by omega⟩) := by
    rw [hd]; congr 2; apply Fin.ext; show halfAt c + k = 1024 + k; unfold halfAt; rw [if_neg hl']
  have hm := meW_of c
  rw [if_neg hl'] at hm
  constructor
  · rintro ⟨_, h⟩ ⟨_, h'⟩
    rw [e, hm] at h
    exact h h'
  · intro h
    refine ⟨hk, ?_⟩
    rw [e, hm]; exact fun h' => h ⟨by omega, h'⟩

theorem ahead_lower (hd : Half c d D) (hD : Trades q D) (hl : lower c = true) {k : ℕ} (hk : k ≤ 1024) : ahead c d k = Nat.count (One D) k := by
  unfold ahead
  induction k with
  | zero => rfl
  | succ k ih =>
    rw [Nat.count_succ, Nat.count_succ, ih (by omega)]
    congr 1
    exact if_congr (leaves_lower hd hD hl (by omega)) rfl rfl

theorem ahead_upper (hd : Half c d D) (hD : Trades q D) (hl : lower c = false) {k : ℕ} (hk : k ≤ 1024) :
    ahead c d k + Nat.count (One D) (1024 + k) = k + Nat.count (One D) 1024 := by
  unfold ahead
  induction k with
  | zero => simp
  | succ k ih =>
    have := ih (by omega)
    rw [Nat.count_succ, ← Nat.add_assoc, Nat.count_succ]
    by_cases h : One D (1024 + k)
    · rw [if_pos h, if_neg (fun h' => (leaves_upper hd hD hl (by omega)).mp h' h)]; omega
    · rw [if_neg h, if_pos ((leaves_upper hd hD hl (by omega)).mpr h)]; omega

/-- Either device of a pair counts as many rows as the first half has ones. -/
theorem ahead_all (hd : Half c d D) (hD : Trades q D) : ahead c d 1024 = Nat.count (One D) 1024 := by
  cases hl : lower c with
  | true => exact ahead_lower hd hD hl le_rfl
  | false => have := ahead_upper hd hD hl le_rfl; have := hD.total; simp only [Nat.reduceAdd] at *; omega

/-! ## Sent and received -/

theorem outAt_pr (c : Dev nD) (n : ℕ) : inAt (pr c) n = outAt c n := by
  unfold inAt outAt; rw [lower_pr]; cases lower c <;> rfl

theorem sends_eq (c : Dev nD) {n : ℕ} (h : n ≤ 1024) (i : Fin 8) :
    sends c (BitVec.ofNat 32 n) i = decide (outAt c n / 128 ≤ i.val ∧ i.val < (outAt c n + n + 127) / 128) := by
  unfold sends; rw [outStart_eq c h, touches_small (by unfold outAt; split <;> omega)]

/-- Numbers that fill the same blocks touch the same blocks. -/
theorem touch_same (c : Dev nD) {q n n' : ℕ} (h1 : 128 * q < n + 128) (h2 : n ≤ 128 * q) (h1' : 128 * q < n' + 128) (h2' : n' ≤ 128 * q)
    (h : n ≤ 1024) (h' : n' ≤ 1024) (i : Fin 8) : comes (pr c) (BitVec.ofNat 32 n') i = sends c (BitVec.ofNat 32 n) i := by
  rw [comes_eq _ h', sends_eq _ h, outAt_pr]
  have hi := i.isLt
  unfold outAt
  congr 1
  split <;> simp only [eq_iff_iff] <;> omega

theorem even_of (p : Plan F) (D : Dev nD → IVec D2048 32) (hd : ∀ c, Half c (p.d c) (D c)) (hD : ∀ c, Trades q (D c)) : p.Even := by
  intro c i
  unfold Plan.rAct Plan.sAct Plan.n
  rw [leaveW_eq, leaveW_eq]
  have a := ahead_all (hd c) (hD c)
  have b := ahead_all (hd (pr c)) (hD (pr c))
  have := (hD c).above; have := (hD c).below; have := (hD (pr c)).above; have := (hD (pr c)).below
  exact touch_same c (q := q) (by omega) (by omega) (by omega) (by omega) (ahead_le _ _ _) (ahead_le _ _ _) i

/-- A block that is not received is not read, whatever the inputs. -/
theorem unread (p : Plan F) : p.Unread := by
  intro c i h v v'
  have hn := ahead_le c (p.d c) 1024
  unfold Plan.rAct Plan.n at h
  unfold Plan.out Plan.n
  rw [leaveW_eq] at h ⊢
  rw [comes_eq c hn] at h
  have h' := of_decide_eq_false h
  rw [inStart_eq c hn, outBlock_merge, outBlock_merge]
  funext j
  obtain ⟨a, b, rfl⟩ : ∃ (a : Fin 128) (b : Fin 512), j = ix2 a b := ⟨j 0, j 1, eq_ix2 j⟩
  rw [merge_apply, merge_apply, comesBit_eq (inAt_le c hn)]
  have ha := a.isLt
  rw [decide_eq_false (by omega)]
  rfl

end Cert.Trade

end
-- ==== Proof.Half.lean ====
/-
What the kernel reads: the host code before it leaves the rows as launched and cuts the device's half out of `dest`.
-/
module

public import proofs.«01_k».proof.Proof.Pairs
public import proofs.«01_k».proof.Proof.Gen.KernelIdeal.Regions
public import Idealize.ShloMosaic.Lib.StableHlo.Run
public import Idealize.ShloMosaic.Lib.Pointwise.ShapeOps

@[expose] public section

noncomputable section

namespace Cert.Trade

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The word the host code cuts at. -/
def cutW (c : Dev nD) : BitVec 32 :=
  let v := IntOp.muli (IntOp.remui .host (IntOp.divui .host (Dev.word c) 2#32) 2#32) 1024#32
  Scalar.select (IntOp.cmpi .slt v 0#32) (IntOp.addi v 2048#32) v

theorem cutW_eq (c : Dev nD) : (cutW c).toInt = halfAt c := by revert c; decide +kernel

theorem rows_read (c : Dev nD) : V1 m c main_arg0 = m ((c : Thread nD τ).loc main_arg0) := V1_of m c main_arg0 (by decide)

/-- The cut of 1024 rows, from its first row on. -/
theorem cut_apply (x : IVec S2048 32) {w : ℤ} {a : ℕ} (hw : w = a) (ha : a + 1024 ≤ 2048) (h : S2048.Slices (fun _ => 0) S1024) (k : Fin 1024) :
    Host.dynamicSlice S1024 x (fun _ => w) h (ix1 k) = x (ix1 ⟨a + k.val, by omega⟩) := by
  rw [Host.dynamicSlice_apply]
  refine congrArg x ((Shape.Idx.norm1 _).trans (congrArg ix1 (Fin.ext ?_)))
  exact congrArg (· + k.val) (Host.clampedStart_of_le _ _ _ a hw ha)

/-- Where the host code cuts. -/
theorem cut_place (c : Dev nD) (W : Valuation τ sig (Elt F)) :
    (StableHlo.after ((hostOps0 c).take 13) W main_v8 : IVec S_ 32) = fun _ => cutW c := by
  unfold hostOps0
  simp only [List.take]
  after_results_simp
  rfl

/-- The host code's cut, over what the arguments hold. -/
theorem half_cut (c : Dev nD) (W : Valuation τ sig (Elt F)) :
    (StableHlo.after (hostOps0 c) W main_v10 : IVec S1x1024 32) = shapeCast S1x1024 (Host.dynamicSlice S1024 (W main_arg1 : IVec S2048 32)
      (fun _ => (cutW c).toInt) sliceFits_S2048_S1024) shapeCasts_S1024_S1x1024 := by
  unfold hostOps0
  after_results_simp
  refine congrArg (fun f => shapeCast S1x1024 (Host.dynamicSlice S1024 (W main_arg1 : IVec S2048 32) f
    sliceFits_S2048_S1024) shapeCasts_S1024_S1x1024) (funext fun k => ?_)
  obtain rfl : k = 0 := Subsingleton.elim _ _
  exact congrArg (fun v : IVec S_ 32 => (v (Shape.Idx.first h_S_)).toInt) (cut_place c W)

/-- What the kernel reads is the device's half of `dest`. -/
theorem half_read (c : Dev nD) : Half c (V1 m c main_v10) (m ((c : Thread nD τ).loc main_arg1)) := by
  intro k
  unfold V1
  rw [half_cut, shapeCast_apply _ _ (ix2 0 k) (ix1 k) (by rw [Shape.rowMajor_val_two, Shape.rowMajor_val_one]; simp)]
  exact cut_apply _ (cutW_eq c) (by unfold halfAt; split <;> decide) _ k

end Cert.Trade

end
-- ==== Proof.Steps.lean ====
/-
One block's step of each of the kernel's three loops: send a block, take a received block into the result,
wait until a sent block has left. The block is a variable; the loops are these steps at 0, …, 7.
-/
module

public import proofs.«01_k».proof.Proof.Protocol

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## All the cells -/

/-- The scoped semaphores of the protocol: every DMA semaphore but the staging buffer's. -/
abbrev osem (k : Fin 18) : SemLoc sig := .dma ⟨k.val + 1, by have := k.isLt; show k.val + 1 < 19; omega⟩

theorem osem_inj : Function.Injective osem := fun a b h => by
  have h' := congrArg Fin.val (SemLoc.dma.inj h)
  exact Fin.ext (Nat.succ.inj h')

def barEmb : Dev nD ↪ GSem nD τ sig := ⟨fun c => barCell c, fun _ _ h => congrArg (fun g : GSem nD τ sig => g.1.1) h⟩
def scEmb : Dev nD × Fin 18 ↪ GSem nD τ sig :=
  ⟨fun x => ((x.1 : Thread nD τ), osem x.2), fun a b h =>
    Prod.ext (congrArg (fun g : GSem nD τ sig => g.1.1) h) (osem_inj (congrArg (fun g : GSem nD τ sig => g.2) h))⟩
abbrev barCells : Finset (GSem nD τ sig) := Finset.univ.map barEmb
abbrev scCells : Finset (GSem nD τ sig) := Finset.univ.map scEmb
abbrev cells : Finset (GSem nD τ sig) := barCells ∪ scCells

theorem bar_mem (c : Dev nD) : barCell c ∈ cells := Finset.mem_union_left _ (Finset.mem_map_of_mem barEmb (Finset.mem_univ c))
theorem sc_mem (c : Dev nD) (k : Fin 18) : (((c : Thread nD τ), osem k) : GSem nD τ sig) ∈ cells :=
  Finset.mem_union_right _ (Finset.mem_map_of_mem scEmb (Finset.mem_univ (c, k)))
theorem x_mem (c : Dev nD) : xCell c ∈ cells := sc_mem c 0
theorem d_mem (c : Dev nD) : dCell c ∈ cells := sc_mem c 1
theorem snd_osem (i : Fin 8) : SemLoc.dma (sndS i) = osem ⟨2 + i.val, by have := i.isLt; omega⟩ :=
  congrArg SemLoc.dma (Fin.ext (by show 3 + i.val = 2 + i.val + 1; omega))
theorem rcv_osem (i : Fin 8) : SemLoc.dma (rcvS i) = osem ⟨10 + i.val, by have := i.isLt; omega⟩ :=
  congrArg SemLoc.dma (Fin.ext (by show 11 + i.val = 10 + i.val + 1; omega))
theorem snd_mem (c : Dev nD) (i : Fin 8) : sndCell c i ∈ cells := by unfold sndCell; rw [snd_osem]; exact sc_mem c _
theorem rcv_mem (c : Dev nD) (i : Fin 8) : rcvCell c i ∈ cells := by unfold rcvCell; rw [rcv_osem]; exact sc_mem c _

section Steps

variable (p : Plan F) (K : GSem nD τ sig → ℕ) (c : Dev nD) (i : Fin 8)

/-- Every cell's invariant, at the names `K`. -/
def invs : sProp 𝕄 := bigSep cells fun g => cellInv ER (rd p) (K g) g
instance invs_persistent : BI.Persistent (invs p K) := by unfold invs; infer_instance
theorem inv_at {g : GSem nD τ sig} (hg : g ∈ cells) : invs p K ⊢ cellInv ER (rd p) (K g) g := bigSep_elim hg

/-! ## Eight blocks, the first `k` of them done -/

/-- The blocks before `k` in state `B`, the others in state `A`. -/
def upTo (A B : Fin 8 → sProp 𝕄) (k : ℕ) : sProp 𝕄 := bigSep Finset.univ fun i => if i.val < k then B i else A i

theorem takeOut {s : Finset (Fin 8)} {i : Fin 8} (h : i ∈ s) (A : Fin 8 → sProp 𝕄) :
    bigSep s A = iprop(A i ∗ bigSep (s.erase i) A) := bigSep_erase h

theorem upTo_zero (A B : Fin 8 → sProp 𝕄) : bigSep Finset.univ A ⊢ upTo A B 0 :=
  bigSep_mono fun i _ => by rw [if_neg (Nat.not_lt_zero _)]; exact BI.Entails.refl _
theorem upTo_eight (A B : Fin 8 → sProp 𝕄) : upTo A B 8 ⊢ bigSep Finset.univ B :=
  bigSep_mono fun i _ => by rw [if_pos i.isLt]; exact BI.Entails.refl _
theorem upTo_step (A B : Fin 8 → sProp 𝕄) (i : Fin 8) :
    upTo A B i.val ⊢ iprop(A i ∗ (B i -∗ upTo A B (i.val + 1))) := by
  unfold upTo
  rw [takeOut (Finset.mem_univ i), takeOut (s := Finset.univ) (Finset.mem_univ i) (fun j : Fin 8 => if j.val < i.val + 1 then B j else A j),
    if_neg (Nat.lt_irrefl _), if_pos (Nat.lt_succ_self _)]
  have e : bigSep (Finset.univ.erase i) (fun j : Fin 8 => if j.val < i.val then B j else A j)
      ⊢ bigSep (Finset.univ.erase i) (fun j : Fin 8 => if j.val < i.val + 1 then B j else A j) :=
    bigSep_mono fun j hj => by
      have hne : j.val ≠ i.val := fun h => (Finset.mem_erase.mp hj).1 (Fin.ext h)
      by_cases h : j.val < i.val
      · rw [if_pos h, if_pos (by omega)]; exact BI.Entails.refl _
      · rw [if_neg h, if_neg (by omega)]; exact BI.Entails.refl _
  iintro ⟨HA, Hr⟩
  isplitl [HA]; · iexact HA
  iintro HB
  isplitl [HB]; · iexact HB
  iapply e; iexact Hr

/-! ## Sending -/

/-- Device `c` owes `O`, having waited on whatever it has. -/
def due (O : CellTallies nD τ sig Unit) : sProp 𝕄 := iprop(∃ W, owes (c : Thread nD τ) O W)

/-- Before block `i` is sent: the two duties, the send buffer's block, and what the barrier brought. -/
def sendPre : sProp 𝕄 :=
  iprop(dutyTok ER (sndCell c i) 0 () ∗ dutyTok ER (rcvCell (pr c) i) 0 () ∗ reached ER (sndCell c i) 0
    ∗ some' c (part sbM i) ∗ barBlock p c i)
/-- After: the right to wait for it to have left; or the send buffer's block, if it is not sent. -/
def sendPost : sProp 𝕄 := if p.sAct c i then iprop(cred (tallyAt (sndCell c i) () N)) else some' c (part sbM i)

theorem landed (d : Dev nD) (f : Buf (Elt F) ((part sbM i).view.loc (c : Thread nD τ))) (fr : Buf (Elt F) ((part rbM i).view.loc (d : Thread nD τ)))
    (w : FVec F S128x512 .bf16) :
    ((part rbM i).view.loc (d : Thread nD τ) ↦[(part rbM i).view.set]{fullShare}
        ((part rbM i).view.write (Elt F) fr ((part sbM i).view.read (Elt F) ((part sbM i).view.write (Elt F) f w Finset.univ)) Finset.univ))
      ⊢ (owns (d : Thread nD τ) (part rbM i) fullShare w : sProp 𝕄) := by
  rw [View.read_write_univ]
  unfold owns
  iintro H; iexists ((part rbM i).view.write (Elt F) fr w Finset.univ)
  isplitr
  · ipureintro; exact View.read_write_univ _ _
  iexact H

theorem send_step (he : p.Even) {α : Type} {Q : α → sProp 𝕄} {g : BitVec 1} {off : Fin 2 → ℕ} {inb : ∀ a, off a + S128x512.size a ≤ S1024x512.size a}
    (hoff : off = ![128 * i.val, 0]) (hg : g = 1#1 ↔ p.sAct c i = true) {w : FVec F S128x512 .bf16} (hw : w = p.sent c i)
    {n : Dev nD} (hn : n = pr c) {s₁ s₂ : DmaSem sig} (hs₁ : s₁ = sndS i) (hs₂ : s₂ = rcvS i)
    {hl} {hst} {hm} {hz₁} {hz₂} {hty'} {hw₁} {hw₂} {hty} {B : Prog (TpuEff nD τ sig (Elt F) Λ₀ .tc) α} :
    iprop(invs p K ∗ sendPre p c i ∗ due c (owed p c i.val))
      ⊢ iprop((sendPost p c i ∗ due c (owed p c (i.val + 1)) -∗ wp frame (wpE (defs₀ (F := F)) 𝒱₀ (c : Thread nD τ) none) Set.univ B Q)
        -∗ wp frame (wpE (defs₀ (F := F)) 𝒱₀ (c : Thread nD τ) none) Set.univ
          (if g = 1#1 then
            .op (.load sbM (Rect.unit (s := S1024x512) off S128x512.size inb).toLoadRect hl) fun _ =>
            .op (.store sbM (Rect.unit (s := S1024x512) off S128x512.size inb) w Finset.univ hst hm) fun _ =>
            .op (.enqueueDma (sbM.slice (Rect.unit (s := S1024x512) off S128x512.size inb) hz₁)
              (.remote (Dev.tc n) (rbM.slice (Rect.unit (s := S1024x512) off S128x512.size inb) hz₂) (.dma s₁) hty') (.dma s₂) hw₁ hw₂ hty) fun _ => B
          else B) Q) := by
  subst hoff hn hs₁ hs₂ hw
  unfold sendPre sendPost barBlock some' due
  rw [owed_step p c i]
  by_cases ha : p.sAct c i = true
  · rw [if_pos (hg.mpr ha), if_pos ha, if_pos ha, if_pos ha]
    iintro ⟨#HI, ⟨HtS, HtR, #HrS, ⟨%f, Hsb⟩, ⟨%fr, Hrb⟩, #HrR⟩, ⟨%W, HO⟩⟩ Hk
    iapply (wp_load_rect 𝒱₀ (c : Thread nD τ) none Set.univ (m := sbM) (r := blk i) (S := (part sbM i).view.set) (f := f) (by exact subset_rfl)) $$ Hsb
    iintro Hsb
    iapply (wp_store 𝒱₀ (c : Thread nD τ) none Set.univ (m := sbM) (r := blk i) (S := (part sbM i).view.set) (f := f) (by exact subset_rfl)) $$ Hsb
    iintro Hsb
    ihave #HI₁ := (inv_at p K (snd_mem c i)) $$ HI
    ihave #HI₂ := (inv_at p K (rcv_mem (pr c) i)) $$ HI
    iapply (Rounds.wp_send_pointsTo 𝒱₀ ER (rd p) (c : Thread nD τ) none (κ₁ := K (sndCell c i)) (κ₂ := K (rcvCell (pr c) i))
      (r₁ := 0) (r₂ := 0) (d₁ := ()) (d₂ := ()) (fs := (part sbM i).view.write (Elt F) f (p.sent c i) Finset.univ) (fd := fr) (mem_of p c (role_snd i) ha)
      (mem_of p (pr c) (role_rcv i) ((he.rAct_pr c i).trans ha)) () () N (credit_rb i) (amount_of p c (role_snd i) 0 ()) (amount_of p (pr c) (role_rcv i) 0 ())
      (owed p c (i.val + 1)) rfl (W := W)
      (by rw [payload_of p c (role_snd i)]; unfold pay some'; iintro H; iexists _; iexact H)
      (by rw [payload_of p (pr c) (role_rcv i)]; unfold pay; rw [pr_pr]; exact landed c i (pr c) f fr _)) $$ [Hsb Hrb HO HtS HtR]
    · isplitr; · iexact HI₁
      isplitr; · iexact HI₂
      isplitl [Hsb]; · iexact Hsb
      isplitl [Hrb]; · iexact Hrb
      isplitl [HO]; · iexact HO
      isplitl [HtS]; · iexact HtS
      isplitr; · iexact HrS
      isplitl [HtR]; · iexact HtR
      iexact HrR
    iintro ⟨Hc, HO⟩
    iapply Hk
    isplitl [Hc]; · iexact Hc
    iexists W; iexact HO
  · rw [if_neg (fun h => ha (hg.mp h)), if_neg ha, if_neg ha, if_neg ha, add_zero]
    iintro ⟨#HI, ⟨HtS, HtR, #HrS, ⟨%f, Hsb⟩, Hbb⟩, HO⟩ Hk
    iapply Hk
    isplitl [Hsb]
    · iexists f; iexact Hsb
    iexact HO

/-! ## Waiting, when there is something to wait for -/

theorem wait_step {s : DmaSem sig} {r : Role} (hs : role (.dma s) = r) (hm : ((c : Thread nD τ), .dma s) ∈ cells) {g : BitVec 1}
    (hg : g = 1#1 ↔ live p c r = true) (X : sProp 𝕄) {sp sp' : Space} {t t' : Shape} {e e' : EltTy} {src : Memref sig .tc sp' t' e'}
    {dst : Memref sig .tc sp t e} (hdst : dst.view.dmaCredit = amt r) {α : Type} {Q : α → sProp 𝕄} {h₁} {h₂}
    {B : Prog (TpuEff nD τ sig (Elt F) Λ₀ .tc) α} :
    iprop(invs p K ∗ (atPos ER ((c : Thread nD τ), .dma s) 0 ∅ 0
        ∗ if live p c r then cred (tallyAt ((c : Thread nD τ), .dma s) () (amt r)) else X) ∗ due c 0)
      ⊢ iprop(((atPos ER ((c : Thread nD τ), .dma s) (if live p c r then 0 + 1 else 0) ∅ 0 ∗ if live p c r then pay p c r else X) ∗ due c 0
          -∗ wp frame (wpE (defs₀ (F := F)) 𝒱₀ (c : Thread nD τ) none) Set.univ B Q)
        -∗ wp frame (wpE (defs₀ (F := F)) 𝒱₀ (c : Thread nD τ) none) Set.univ
          (if g = 1#1 then .op (.waitDma2 s src dst h₁ h₂) fun _ => B else B) Q) := by
  unfold due
  by_cases ha : live p c r = true
  · rw [if_pos (hg.mpr ha), if_pos ha, if_pos ha, if_pos ha]
    iintro ⟨#HI, ⟨Hat, Hc⟩, ⟨%W, HO⟩⟩ Hk
    ihave #HI₁ := (inv_at p K hm) $$ HI
    iapply (Rounds.wp_wait_rest_token 𝒱₀ ER (rd p) (c : Thread nD τ) none (κ := K ((c : Thread nD τ), .dma s))
        ((wpE_waitDma2_eq (src := src) (dst := dst) 𝒱₀ (c : Thread nD τ) none Set.univ)) (Set.mem_univ _) () (O := 0) (W := W) (R := 0) (m := 0) (T := ∅)
        ((Nat.zero_add _).trans (hdst.trans (expect_of p c hs ha).symm))) $$ [Hc HO Hat]
    · isplitr; · iexact HI₁
      isplitl [Hc]; · rw [hdst]; iexact Hc
      isplitl [HO]; · iexact HO
      isplitr; · rw [MayWait_zero]; iempintro
      iexact Hat
    iintro ⟨HO, Hat, -, Hpay⟩
    iapply Hk
    isplitl [Hat Hpay]
    · isplitl [Hat]; · iexact Hat
      iapply (Entails.of_eq (rest_of p c hs ha)) $$ Hpay
    iexists _; iexact HO
  · rw [if_neg (fun h => ha (hg.mp h)), if_neg ha, if_neg ha, if_neg ha]
    iintro ⟨#HI, HX, HO⟩ Hk
    iapply Hk
    isplitl [HX]; · iexact HX
    iexact HO

/-! ## Receiving -/

/-- How far the waits on a cell have come at the end. -/
def seen (b : Bool) : ℕ := if b then 0 + 1 else 0

/-- Before block `i` is received. -/
def recvPre : sProp 𝕄 :=
  iprop((atPos ER (rcvCell c i) 0 ∅ 0 ∗ if p.rAct c i then cred (tallyAt (rcvCell c i) () N) else some' c (part rbM i)) ∗ some' c (part oM i))
/-- When it lies in the receive buffer, or will not be read. -/
def recvMid : sProp 𝕄 :=
  iprop((atPos ER (rcvCell c i) (seen (p.rAct c i)) ∅ 0 ∗ ∃ v, ⌜p.out c i v = p.outC c i⌝ ∗ owns (c : Thread nD τ) (part rbM i) fullShare v)
    ∗ some' c (part oM i))
/-- When its rows lie in the result. -/
def recvPost : sProp 𝕄 :=
  iprop((atPos ER (rcvCell c i) (seen (p.rAct c i)) ∅ 0 ∗ some' c (part rbM i)) ∗ owns (c : Thread nD τ) (part oM i) fullShare (p.outC c i))

theorem some'_owns {sp : Space} {s : Shape} {e : EltTy} (m : Memref sig .tc sp s e) :
    (some' c m : sProp 𝕄) ⊢ iprop(∃ v, owns (c : Thread nD τ) m fullShare v) := by
  unfold some' owns; iintro ⟨%f, H⟩; iexists (m.view.read (Elt F) f); iexists f
  isplitr
  · ipureintro; rfl
  iexact H

/-- Either way the block the result reads is there. -/
theorem recv_got (hu : p.Unread) :
    (if live p c (.recv i) then pay p c (.recv i) else some' c (part rbM i) : sProp 𝕄)
      ⊢ iprop(∃ v, ⌜p.out c i v = p.outC c i⌝ ∗ owns (c : Thread nD τ) (part rbM i) fullShare v) := by
  by_cases ha : p.rAct c i = true
  · rw [if_pos (show live p c (.recv i) = true from ha)]
    unfold pay
    iintro H; iexists (p.sent (pr c) i)
    isplitr
    · ipureintro; rfl
    iexact H
  · rw [if_neg (show ¬ live p c (.recv i) = true from ha)]
    iintro H
    ihave Hv := (some'_owns c (part rbM i)) $$ H
    icases Hv with ⟨%v, H⟩
    iexists v
    isplitr
    · ipureintro; exact hu c i (Bool.not_eq_true _ ▸ ha) v _
    iexact H

theorem recv_wait (hu : p.Unread) {g : BitVec 1} (hg : g = 1#1 ↔ p.rAct c i = true) {s : DmaSem sig} (hs : s = rcvS i)
    {sp' : Space} {t' : Shape} {e' : EltTy} {src : Memref sig .tc sp' t' e'} {off : Fin 2 → ℕ} {inb : ∀ a, off a + S128x512.size a ≤ S1024x512.size a}
    (hoff : off = ![128 * i.val, 0]) {hz} {h₁} {h₂} {α : Type} {Q : α → sProp 𝕄} {B : Prog (TpuEff nD τ sig (Elt F) Λ₀ .tc) α} :
    iprop(invs p K ∗ recvPre p c i ∗ due c 0)
      ⊢ iprop((recvMid p c i ∗ due c 0 -∗ wp frame (wpE (defs₀ (F := F)) 𝒱₀ (c : Thread nD τ) none) Set.univ B Q)
        -∗ wp frame (wpE (defs₀ (F := F)) 𝒱₀ (c : Thread nD τ) none) Set.univ
          (if g = 1#1 then .op (.waitDma2 s src (rbM.slice (Rect.unit (s := S1024x512) off S128x512.size inb) hz) h₁ h₂) fun _ => B else B) Q) := by
  subst hoff hs
  unfold recvPre recvMid seen
  iintro ⟨#HI, ⟨HX, Ho⟩, HO⟩ Hk
  iapply (wait_step p K c (s := rcvS i) (r := .recv i) (role_rcv i) (rcv_mem c i) hg (some' c (part rbM i)) (src := src) (dst := part rbM i)
    (credit_rb i)) $$ [HX HO]
  · isplitr; · iexact HI
    isplitl [HX]; · iexact HX
    iexact HO
  iintro ⟨⟨Hat, HX⟩, HO⟩
  iapply Hk
  isplitr [HO]
  · isplitr [Ho]
    · isplitl [Hat]; · iexact Hat
      iapply (recv_got p c i hu) $$ HX
    iexact Ho
  iexact HO

theorem recv_store {w : Vec F S128x512 .bf16 → Vec F S128x512 .bf16} (hw : ∀ v, w v = p.out c i v)
    {off : Fin 2 → ℕ} {inb inb' : ∀ a, off a + S128x512.size a ≤ S1024x512.size a} (hoff : off = ![128 * i.val, 0])
    {hl} {hl'} {hst} {hm} {α : Type} {Q : α → sProp 𝕄} {B : Prog (TpuEff nD τ sig (Elt F) Λ₀ .tc) α} :
    (recvMid p c i : sProp 𝕄)
      ⊢ iprop((recvPost p c i -∗ wp frame (wpE (defs₀ (F := F)) 𝒱₀ (c : Thread nD τ) none) Set.univ B Q)
        -∗ wp frame (wpE (defs₀ (F := F)) 𝒱₀ (c : Thread nD τ) none) Set.univ
          (.op (.load rbM (Rect.unit (s := S1024x512) off S128x512.size inb).toLoadRect hl) fun v =>
            .op (.load oM (Rect.unit (s := S1024x512) off S128x512.size inb').toLoadRect hl') fun _ =>
            .op (.store oM (Rect.unit (s := S1024x512) off S128x512.size inb') (w v) Finset.univ hst hm) fun _ => B) Q) := by
  subst hoff
  unfold recvMid recvPost owns some'
  iintro ⟨⟨Hat, ⟨%v, %hv, ⟨%f, %hf, Hrb⟩⟩⟩, ⟨%fo, Ho⟩⟩ Hk
  iapply (wp_load_rect 𝒱₀ (c : Thread nD τ) none Set.univ (m := rbM) (r := blk i) (S := (part rbM i).view.set) (f := f) (by exact subset_rfl)) $$ Hrb
  iintro Hrb
  iapply (wp_load_rect 𝒱₀ (c : Thread nD τ) none Set.univ (m := oM) (r := blk i) (S := (part oM i).view.set) (f := fo) (by exact subset_rfl)) $$ Ho
  iintro Ho
  iapply (wp_store 𝒱₀ (c : Thread nD τ) none Set.univ (m := oM) (r := blk i) (S := (part oM i).view.set) (f := fo) (by exact subset_rfl)) $$ Ho
  iintro Ho
  iapply Hk
  isplitr [Ho]
  · isplitl [Hat]; · iexact Hat
    iexists f; iexact Hrb
  iexists ((part oM i).view.write (Elt F) fo (w ((part rbM i).view.read (Elt F) f)) Finset.univ)
  isplitr
  · ipureintro; exact (View.read_write_univ _ _).trans ((hw _).trans ((congrArg _ hf).trans hv))
  iexact Ho

/-! ## Waiting for what was sent to have left -/

/-- Before the wait for block `i`, and after it. -/
def leftPre : sProp 𝕄 := iprop(atPos ER (sndCell c i) 0 ∅ 0 ∗ sendPost p c i)
def leftPost : sProp 𝕄 := iprop(atPos ER (sndCell c i) (seen (p.sAct c i)) ∅ 0 ∗ some' c (part sbM i))

theorem left_wait {g : BitVec 1} (hg : g = 1#1 ↔ p.sAct c i = true) {s : DmaSem sig} (hs : s = sndS i)
    {sp' : Space} {t' : Shape} {e' : EltTy} {src : Memref sig .tc sp' t' e'} {off : Fin 2 → ℕ} {inb : ∀ a, off a + S128x512.size a ≤ S1024x512.size a}
    (hoff : off = ![128 * i.val, 0]) {hz} {h₁} {h₂} {α : Type} {Q : α → sProp 𝕄} {B : Prog (TpuEff nD τ sig (Elt F) Λ₀ .tc) α} :
    iprop(invs p K ∗ leftPre p c i ∗ due c 0)
      ⊢ iprop((leftPost p c i ∗ due c 0 -∗ wp frame (wpE (defs₀ (F := F)) 𝒱₀ (c : Thread nD τ) none) Set.univ B Q)
        -∗ wp frame (wpE (defs₀ (F := F)) 𝒱₀ (c : Thread nD τ) none) Set.univ
          (if g = 1#1 then .op (.waitDma2 s src (sbM.slice (Rect.unit (s := S1024x512) off S128x512.size inb) hz) h₁ h₂) fun _ => B else B) Q) := by
  subst hoff hs
  have e : (if live p c (.send i) then pay p c (.send i) else some' c (part sbM i) : sProp 𝕄) = some' c (part sbM i) := by
    unfold pay; exact ite_self _
  unfold leftPre leftPost sendPost seen
  iintro ⟨#HI, HX, HO⟩ Hk
  iapply (wait_step p K c (s := sndS i) (r := .send i) (role_snd i) (snd_mem c i) hg (some' c (part sbM i)) (src := src) (dst := part sbM i)
    (credit_sb i)) $$ [HX HO]
  · isplitr; · iexact HI
    isplitl [HX]; · iexact HX
    iexact HO
  iintro ⟨⟨Hat, HX⟩, HO⟩
  iapply Hk
  isplitr [HO]
  · isplitl [Hat]; · iexact Hat
    iapply (Entails.of_eq e) $$ HX
  iexact HO

end Steps

end Cert.Trade
-- ==== Proof.Parts.lean ====
/-
The kernel's body, a stretch at a time: what each stretch needs, what it leaves, and what it hands on.
-/
module

public import proofs.«01_k».proof.Proof.Steps

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Parts

variable (p : Plan F) (K : GSem nD τ sig → ℕ) (c : Dev nD)

/-- Device `c` runs `e` and then has `Q`. -/
abbrev Runs {α : Type} (e : Prog (TpuEff nD τ sig (Elt F) Λ₀ .tc) α) (Q : α → sProp 𝕄) : sProp 𝕄 :=
  wp frame (wpE (defs₀ (F := F)) 𝒱₀ (c : Thread nD τ) none) Set.univ e Q

theorem runs_ret {α : Type} {a : α} {Q : α → sProp 𝕄} : Q a ⊢ Runs c (.ret a) Q := by
  unfold Runs; rw [wp_ret]; iintro H; imodintro; iexact H

/-! ## The steps, on eight blocks -/

/-- The blocks before `k` have been sent. -/
def sending (k : ℕ) : sProp 𝕄 := iprop(upTo (sendPre p c) (sendPost p c) k ∗ due c (owed p c k))
/-- The blocks before `k` have been received. -/
def receiving (k : ℕ) : sProp 𝕄 := iprop(upTo (recvPre p c) (recvPost p c) k ∗ due c 0)
/-- The blocks before `k` have been waited for. -/
def leaving (k : ℕ) : sProp 𝕄 := iprop(upTo (leftPre p c) (leftPost p c) k ∗ due c 0)

variable {c}

theorem send_next (he : p.Even) (i : Fin 8) {k : ℕ} (hk : k = i.val) {α : Type} {Q : α → sProp 𝕄} {g : BitVec 1} {off : Fin 2 → ℕ}
    {inb : ∀ a, off a + S128x512.size a ≤ S1024x512.size a}
    (hg : g = 1#1 ↔ p.sAct c i = true) (hoff : off = ![128 * i.val, 0]) {w : FVec F S128x512 .bf16} (hw : w = p.sent c i)
    {n : Dev nD} (hn : n = pr c) {s₁ s₂ : DmaSem sig} (hs₁ : s₁ = sndS i) (hs₂ : s₂ = rcvS i)
    {hl} {hst} {hm} {hz₁} {hz₂} {hty'} {hw₁} {hw₂} {hty} {B : Prog (TpuEff nD τ sig (Elt F) Λ₀ .tc) α} :
    iprop(invs p K ∗ sending p c k) ⊢ iprop((sending p c (k + 1) -∗ Runs c B Q)
        -∗ Runs c (if g = 1#1 then
            .op (.load sbM (Rect.unit (s := S1024x512) off S128x512.size inb).toLoadRect hl) fun _ =>
            .op (.store sbM (Rect.unit (s := S1024x512) off S128x512.size inb) w Finset.univ hst hm) fun _ =>
            .op (.enqueueDma (sbM.slice (Rect.unit (s := S1024x512) off S128x512.size inb) hz₁)
              (.remote (Dev.tc n) (rbM.slice (Rect.unit (s := S1024x512) off S128x512.size inb) hz₂) (.dma s₁) hty') (.dma s₂) hw₁ hw₂ hty) fun _ => B
          else B) Q) := by
  subst hk
  unfold sending
  iintro ⟨#HI, HS, HO⟩ Hk
  ihave HS := (upTo_step (sendPre p c) (sendPost p c) i) $$ HS
  icases HS with ⟨HA, HB⟩
  iapply (send_step p K c i he hoff hg hw hn hs₁ hs₂) $$ [HA HO]
  · isplitr; · iexact HI
    isplitl [HA]; · iexact HA
    iexact HO
  iintro ⟨HP, HO⟩
  iapply Hk
  isplitr [HO]
  · iapply HB; iexact HP
  iexact HO

theorem recv_next (hu : p.Unread) (i : Fin 8) {k : ℕ} (hk : k = i.val) {α : Type} {Q : α → sProp 𝕄} {g : BitVec 1}
    (hg : g = 1#1 ↔ p.rAct c i = true) {s : DmaSem sig} (hs : s = rcvS i)
    {sp' : Space} {t' : Shape} {e' : EltTy} {src : Memref sig .tc sp' t' e'} {off : Fin 2 → ℕ}
    {inb inb' inb'' : ∀ a, off a + S128x512.size a ≤ S1024x512.size a} (hoff : off = ![128 * i.val, 0])
    {w : Vec F S128x512 .bf16 → Vec F S128x512 .bf16} (hw : ∀ v, w v = p.out c i v)
    {hz} {h₁} {h₂} {hl} {hl'} {hst} {hm} {B : Prog (TpuEff nD τ sig (Elt F) Λ₀ .tc) α} :
    iprop(invs p K ∗ receiving p c k) ⊢ iprop((receiving p c (k + 1) -∗ Runs c B Q)
        -∗ Runs c (if g = 1#1 then .op (.waitDma2 s src (rbM.slice (Rect.unit (s := S1024x512) off S128x512.size inb) hz) h₁ h₂) fun _ =>
            .op (.load rbM (Rect.unit (s := S1024x512) off S128x512.size inb').toLoadRect hl) fun v =>
            .op (.load oM (Rect.unit (s := S1024x512) off S128x512.size inb'').toLoadRect hl') fun _ =>
            .op (.store oM (Rect.unit (s := S1024x512) off S128x512.size inb'') (w v) Finset.univ hst hm) fun _ => B
          else
            .op (.load rbM (Rect.unit (s := S1024x512) off S128x512.size inb').toLoadRect hl) fun v =>
            .op (.load oM (Rect.unit (s := S1024x512) off S128x512.size inb'').toLoadRect hl') fun _ =>
            .op (.store oM (Rect.unit (s := S1024x512) off S128x512.size inb'') (w v) Finset.univ hst hm) fun _ => B) Q) := by
  subst hk
  unfold receiving
  iintro ⟨#HI, HS, HO⟩ Hk
  ihave HS := (upTo_step (recvPre p c) (recvPost p c) i) $$ HS
  icases HS with ⟨HA, HB⟩
  iapply (recv_wait p K c i hu hg hs hoff) $$ [HA HO]
  · isplitr; · iexact HI
    isplitl [HA]; · iexact HA
    iexact HO
  iintro ⟨HM, HO⟩
  iapply (recv_store p c i hw hoff) $$ HM
  iintro HP
  iapply Hk
  isplitr [HO]
  · iapply HB; iexact HP
  iexact HO

theorem left_next (i : Fin 8) {k : ℕ} (hk : k = i.val) {α : Type} {Q : α → sProp 𝕄} {g : BitVec 1}
    (hg : g = 1#1 ↔ p.sAct c i = true) {s : DmaSem sig} (hs : s = sndS i)
    {sp' : Space} {t' : Shape} {e' : EltTy} {src : Memref sig .tc sp' t' e'} {off : Fin 2 → ℕ} {inb : ∀ a, off a + S128x512.size a ≤ S1024x512.size a}
    (hoff : off = ![128 * i.val, 0]) {hz} {h₁} {h₂} {B : Prog (TpuEff nD τ sig (Elt F) Λ₀ .tc) α} :
    iprop(invs p K ∗ leaving p c k) ⊢ iprop((leaving p c (k + 1) -∗ Runs c B Q)
        -∗ Runs c (if g = 1#1 then .op (.waitDma2 s src (sbM.slice (Rect.unit (s := S1024x512) off S128x512.size inb) hz) h₁ h₂) fun _ => B else B) Q) := by
  subst hk
  unfold leaving
  iintro ⟨#HI, HS, HO⟩ Hk
  ihave HS := (upTo_step (leftPre p c) (leftPost p c) i) $$ HS
  icases HS with ⟨HA, HB⟩
  iapply (left_wait p K c i hg hs hoff) $$ [HA HO]
  · isplitr; · iexact HI
    isplitl [HA]; · iexact HA
    iexact HO
  iintro ⟨HP, HO⟩
  iapply Hk
  isplitr [HO]
  · iapply HB; iexact HP
  iexact HO

/-! ## The stretches that send -/

/-- The tests before each block, on the first block `lo` and the end `hi` of the blocks that are sent. -/
def SendBits (p : Plan F) (c : Dev nD) (lo hi : BitVec 32) : Prop := ∀ i : Fin 8, touchBit lo hi (BitVec.ofNat 32 i.val) = 1#1 ↔ p.sAct c i = true
def RecvBits (p : Plan F) (c : Dev nD) (lo hi : BitVec 32) : Prop := ∀ i : Fin 8, touchBit lo hi (BitVec.ofNat 32 i.val) = 1#1 ↔ p.rAct c i = true

theorem dev2 (c : Dev nD) : (⟨k0_dev2 c, k0_dev2_lt c⟩ : Dev nD) = pr c := by revert c; decide +kernel
theorem dev3 (c : Dev nD) : (⟨k0_dev3 c, k0_dev3_lt c⟩ : Dev nD) = pr c := by revert c; decide +kernel
theorem dev4 (c : Dev nD) : (⟨k0_dev4 c, k0_dev4_lt c⟩ : Dev nD) = pr c := by revert c; decide +kernel
theorem dev5 (c : Dev nD) : (⟨k0_dev5 c, k0_dev5_lt c⟩ : Dev nD) = pr c := by revert c; decide +kernel
theorem dev6 (c : Dev nD) : (⟨k0_dev6 c, k0_dev6_lt c⟩ : Dev nD) = pr c := by revert c; decide +kernel
theorem dev7 (c : Dev nD) : (⟨k0_dev7 c, k0_dev7_lt c⟩ : Dev nD) = pr c := by revert c; decide +kernel
theorem dev8 (c : Dev nD) : (⟨k0_dev8 c, k0_dev8_lt c⟩ : Dev nD) = pr c := by revert c; decide +kernel
theorem dev9 (c : Dev nD) : (⟨k0_dev9 c, k0_dev9_lt c⟩ : Dev nD) = pr c := by revert c; decide +kernel

theorem part6 (he : p.Even) {lo hi : BitVec 32} (hb : SendBits p c lo hi) {g : IVec S1x1024 32} {x : Vec F S1024x512 .f32}
    (hs : ∀ i, sentBlock g x i = p.sent c i) (v2 v8 v9 : BitVec 32) {Q : (Σ' (v216 : BitVec 1), BitVec 32) → sProp 𝕄} :
    iprop(invs p K ∗ sending p c 1) ⊢ iprop((sending p c 7 -∗ Q ⟨Scalar.cmpi .sle lo 7#32, 7#32⟩)
      -∗ Runs c (k0_part6 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        c v2 v8 v9 g lo hi x (Scalar.extui (Scalar.andi (Scalar.cmpi .sle lo 1#32) (Scalar.cmpi .sgt hi 1#32))) 0#32) Q) := by
  rw [k0_part6_eq_skeleton]
  unfold k0_part6_skel
  simp only [Prog.lift, Prog.bind_op, Prog.bind_ret, Prog.pure_eq_ret]
  iintro ⟨#HI, HS⟩ Hk
  iapply (send_next p K he 1 (k := 1) rfl (hb 1) rfl (hs 1) (dev3 c) rfl rfl) $$ [HS]
  · isplitr; · iexact HI
    iexact HS
  iintro HS
  iapply (send_next p K he 2 (k := 2) rfl (hb 2) rfl (hs 2) (dev4 c) rfl rfl) $$ [HS]
  · isplitr; · iexact HI
    iexact HS
  iintro HS
  iapply (send_next p K he 3 (k := 3) rfl (hb 3) rfl (hs 3) (dev5 c) rfl rfl) $$ [HS]
  · isplitr; · iexact HI
    iexact HS
  iintro HS
  iapply (send_next p K he 4 (k := 4) rfl (hb 4) rfl (hs 4) (dev6 c) rfl rfl) $$ [HS]
  · isplitr; · iexact HI
    iexact HS
  iintro HS
  iapply (send_next p K he 5 (k := 5) rfl (hb 5) rfl (hs 5) (dev7 c) rfl rfl) $$ [HS]
  · isplitr; · iexact HI
    iexact HS
  iintro HS
  iapply (send_next p K he 6 (k := 6) rfl (hb 6) rfl (hs 6) (dev8 c) rfl rfl) $$ [HS]
  · isplitr; · iexact HI
    iexact HS
  iintro HS
  iapply runs_ret
  iapply Hk; iexact HS

theorem sending_done : sending p c (7 + 1) ⊢ iprop(upTo (sendPre p c) (sendPost p c) 8 ∗ due c 0) := by
  unfold sending; rw [owed_end]

/-! ## The stretches that receive -/

theorem part7 (he : p.Even) (hu : p.Unread) {lo hi rlo rhi : BitVec 32} (hb : SendBits p c lo hi) (hr : RecvBits p c rlo rhi)
    {g s : IVec S1x1024 32} {n r : BitVec 32} {x : Vec F S1024x512 .f32} (hs : ∀ i, sentBlock g x i = p.sent c i)
    (ho : ∀ i v, outBlock n r s x i v = p.out c i v) (v2 v8 v9 : BitVec 32)
    {Q : (Σ' (v229 : FVec F S1024x512 .bf16) (v230 : IVec S128x1 32), BitVec 1) → sProp 𝕄} :
    iprop(invs p K ∗ sending p c 7 ∗ upTo (recvPre p c) (recvPost p c) 0)
      ⊢ iprop((upTo (sendPre p c) (sendPost p c) 8 ∗ receiving p c 1
          -∗ Q ⟨kept s x, blockRows, touchBit rlo rhi 1#32⟩)
      -∗ Runs c (k0_part7 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        c v2 v8 v9 n g s r hi rlo rhi x (Scalar.cmpi .sle lo 7#32) 7#32) Q) := by
  rw [k0_part7_eq_skeleton]
  unfold k0_part7_skel kept blockRows touchBit
  simp only [Prog.lift, Prog.bind_op, Prog.bind_ret, Prog.pure_eq_ret]
  iintro ⟨#HI, HS, HR⟩ Hk
  iapply (send_next p K he 7 (k := 7) rfl (hb 7) rfl (hs 7) (dev9 c) rfl rfl) $$ [HS]
  · isplitr; · iexact HI
    iexact HS
  iintro HS
  ihave HS := (sending_done p) $$ HS
  icases HS with ⟨Hs, HO⟩
  ihave HS : iprop(receiving p c 0) $$ [HR HO]
  · unfold receiving
    isplitl [HR]; · iexact HR
    iexact HO
  iapply (recv_next p K hu 0 (k := 0) rfl (hr 0) rfl rfl (ho 0)) $$ [HS]
  · isplitr; · iexact HI
    iexact HS
  iintro HS
  iapply runs_ret
  iapply Hk
  isplitl [Hs]; · iexact Hs
  iexact HS

theorem part8 (hu : p.Unread) {rlo rhi : BitVec 32} (hr : RecvBits p c rlo rhi) {s : IVec S1x1024 32} {n r : BitVec 32}
    {x : Vec F S1024x512 .f32} (ho : ∀ i v, outBlock n r s x i v = p.out c i v) (v2 v8 v9 : BitVec 32) {Q : BitVec 32 → sProp 𝕄} :
    iprop(invs p K ∗ receiving p c 1) ⊢ iprop((receiving p c 3 -∗ Q (Scalar.extui (Scalar.andi (Scalar.cmpi .sle rlo 3#32) (Scalar.cmpi .sgt rhi 3#32))))
      -∗ Runs c (k0_part8 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        v2 v8 v9 n r rlo rhi (kept s x) blockRows (touchBit rlo rhi 1#32)) Q) := by
  rw [k0_part8_eq_skeleton]
  unfold k0_part8_skel
  simp only [Prog.lift, Prog.bind_op, Prog.bind_ret, Prog.pure_eq_ret]
  iintro ⟨#HI, HS⟩ Hk
  iapply (recv_next p K hu 1 (k := 1) rfl (hr 1) rfl rfl (ho 1)) $$ [HS]
  · isplitr; · iexact HI
    iexact HS
  iintro HS
  iapply (recv_next p K hu 2 (k := 2) rfl (hr 2) rfl rfl (ho 2)) $$ [HS]
  · isplitr; · iexact HI
    iexact HS
  iintro HS
  iapply runs_ret
  iapply Hk; iexact HS

theorem part9 (hu : p.Unread) {rlo rhi : BitVec 32} (hr : RecvBits p c rlo rhi) {s : IVec S1x1024 32} {n r : BitVec 32}
    {x : Vec F S1024x512 .f32} (ho : ∀ i v, outBlock n r s x i v = p.out c i v) (v2 v8 v9 : BitVec 32) {Q : BitVec 32 → sProp 𝕄} :
    iprop(invs p K ∗ receiving p c 3) ⊢ iprop((receiving p c 5 -∗ Q (Scalar.extui (Scalar.andi (Scalar.cmpi .sle rlo 5#32) (Scalar.cmpi .sgt rhi 5#32))))
      -∗ Runs c (k0_part9 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        v2 v8 v9 n r rlo rhi (kept s x) blockRows (Scalar.extui (Scalar.andi (Scalar.cmpi .sle rlo 3#32) (Scalar.cmpi .sgt rhi 3#32)))) Q) := by
  rw [k0_part9_eq_skeleton]
  unfold k0_part9_skel
  simp only [Prog.lift, Prog.bind_op, Prog.bind_ret, Prog.pure_eq_ret]
  iintro ⟨#HI, HS⟩ Hk
  iapply (recv_next p K hu 3 (k := 3) rfl (hr 3) rfl rfl (ho 3)) $$ [HS]
  · isplitr; · iexact HI
    iexact HS
  iintro HS
  iapply (recv_next p K hu 4 (k := 4) rfl (hr 4) rfl rfl (ho 4)) $$ [HS]
  · isplitr; · iexact HI
    iexact HS
  iintro HS
  iapply runs_ret
  iapply Hk; iexact HS

theorem part10 (hu : p.Unread) {rlo rhi : BitVec 32} (hr : RecvBits p c rlo rhi) {s : IVec S1x1024 32} {n r : BitVec 32}
    {x : Vec F S1024x512 .f32} (ho : ∀ i v, outBlock n r s x i v = p.out c i v) (v2 v8 v9 : BitVec 32) {Q : (Σ' (v364 : BitVec 1), BitVec 1) → sProp 𝕄} :
    iprop(invs p K ∗ receiving p c 5) ⊢ iprop((receiving p c 7 -∗ Q ⟨Scalar.cmpi .sle rlo 7#32, Scalar.cmpi .sgt rhi 7#32⟩)
      -∗ Runs c (k0_part10 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        v2 v8 v9 n r rlo rhi (kept s x) blockRows (Scalar.extui (Scalar.andi (Scalar.cmpi .sle rlo 5#32) (Scalar.cmpi .sgt rhi 5#32)))) Q) := by
  rw [k0_part10_eq_skeleton]
  unfold k0_part10_skel
  simp only [Prog.lift, Prog.bind_op, Prog.bind_ret, Prog.pure_eq_ret]
  iintro ⟨#HI, HS⟩ Hk
  iapply (recv_next p K hu 5 (k := 5) rfl (hr 5) rfl rfl (ho 5)) $$ [HS]
  · isplitr; · iexact HI
    iexact HS
  iintro HS
  iapply (recv_next p K hu 6 (k := 6) rfl (hr 6) rfl rfl (ho 6)) $$ [HS]
  · isplitr; · iexact HI
    iexact HS
  iintro HS
  iapply runs_ret
  iapply Hk; iexact HS

/-! ## The stretches that wait for what was sent -/

theorem part11 (hu : p.Unread) {lo hi rlo rhi : BitVec 32} (hb : SendBits p c lo hi) (hr : RecvBits p c rlo rhi) {s : IVec S1x1024 32}
    {n r : BitVec 32} {x : Vec F S1024x512 .f32} (ho : ∀ i v, outBlock n r s x i v = p.out c i v) (v2 v8 v9 : BitVec 32)
    {Q : PUnit → sProp 𝕄} :
    iprop(invs p K ∗ receiving p c 7 ∗ upTo (leftPre p c) (leftPost p c) 0)
      ⊢ iprop((upTo (recvPre p c) (recvPost p c) 8 ∗ leaving p c 3 -∗ Q ⟨⟩)
      -∗ Runs c (k0_part11 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        v2 v8 v9 n r lo hi (kept s x) blockRows (Scalar.cmpi .sle rlo 7#32) (Scalar.cmpi .sgt rhi 7#32)) Q) := by
  rw [k0_part11_eq_skeleton]
  unfold k0_part11_skel
  simp only [Prog.lift, Prog.bind_op, Prog.bind_ret, Prog.pure_eq_ret]
  iintro ⟨#HI, HS, HL⟩ Hk
  iapply (recv_next p K hu 7 (k := 7) rfl (hr 7) rfl rfl (ho 7)) $$ [HS]
  · isplitr; · iexact HI
    iexact HS
  iintro HS
  unfold receiving
  icases HS with ⟨Hr, HO⟩
  ihave HS : iprop(leaving p c 0) $$ [HL HO]
  · unfold leaving
    isplitl [HL]; · iexact HL
    iexact HO
  iapply (left_next p K 0 (k := 0) rfl (hb 0) rfl rfl) $$ [HS]
  · isplitr; · iexact HI
    iexact HS
  iintro HS
  iapply (left_next p K 1 (k := 1) rfl (hb 1) rfl rfl) $$ [HS]
  · isplitr; · iexact HI
    iexact HS
  iintro HS
  iapply (left_next p K 2 (k := 2) rfl (hb 2) rfl rfl) $$ [HS]
  · isplitr; · iexact HI
    iexact HS
  iintro HS
  iapply runs_ret
  iapply Hk
  isplitl [Hr]; · iexact Hr
  iexact HS

end Parts

end Cert.Trade
-- ==== Proof.Body.lean ====
/-
The kernel's body on one device, from what it is given at its start to what it leaves at its end.
-/
module

public import proofs.«01_k».proof.Proof.Parts

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Body

variable (p : Plan F) (K : GSem nD τ sig → ℕ) (c : Dev nD)

/-! ## The first stretch: the barrier's signal, the copies of the inputs, the word arithmetic on `dest` -/

/-- What the first stretch needs. -/
def first : sProp 𝕄 :=
  iprop((dutyTok ER (barCell (pr c)) 0 () ∗ reached ER (barCell (pr c)) 0 ∗ atPos ER (barCell c) 0 ∅ 0 ∗ cred (tallyAt (barCell c) () 1))
    ∗ (dutyTok ER (xCell c) 0 () ∗ reached ER (xCell c) 0 ∗ atPos ER (xCell c) 0 ∅ 0)
    ∗ (dutyTok ER (dCell c) 0 () ∗ reached ER (dCell c) 0 ∗ atPos ER (dCell c) 0 ∅ 0)
    ∗ owns (c : Thread nD τ) xM fullShare (p.x c) ∗ owns (c : Thread nD τ) dM fullShare (p.d c) ∗ some' c xvM ∗ some' c dvM
    ∗ pay p (pr c) .bar ∗ due c (O₀ p c))

/-- What it leaves. -/
def second : sProp 𝕄 :=
  iprop((atPos ER (barCell c) 0 ∅ 0 ∗ cred (tallyAt (barCell c) () 1)) ∗ (atPos ER (xCell c) 0 ∅ 0 ∗ cred (tallyAt (xCell c) () Nx))
    ∗ (atPos ER (dCell c) (0 + 1) ∅ 0 ∗ some' c dvM ∗ owns (c : Thread nD τ) dM fullShare (p.d c)) ∗ due c (owed p c 0))

/-- A whole buffer copied onto another holds what that one held. -/
theorem copied {s : Shape} {e : EltTy} {sp sp' : Space} (a : Memref sig .tc sp s e) (b : Memref sig .tc sp' s e) (f : Buf (Elt F) (a.view.loc (c : Thread nD τ)))
    (g : Buf (Elt F) (b.view.loc (c : Thread nD τ))) (v : s.Idx → Elt F e) (hf : a.view.read (Elt F) f = v) :
    iprop((b.view.loc (c : Thread nD τ) ↦[b.view.set]{fullShare} (b.view.write (Elt F) g (a.view.read (Elt F) f) Finset.univ))
        ∗ (a.view.loc (c : Thread nD τ) ↦[a.view.set]{fullShare} f))
      ⊢ (iprop(owns (c : Thread nD τ) b fullShare v ∗ owns (c : Thread nD τ) a fullShare v) : sProp 𝕄) := by
  unfold owns
  iintro ⟨Hb, Ha⟩
  isplitl [Hb]
  · iexists (b.view.write (Elt F) g (a.view.read (Elt F) f) Finset.univ)
    isplitr
    · ipureintro; exact (View.read_write_univ _ _).trans hf
    iexact Hb
  iexists f
  isplitr
  · ipureintro; exact hf
  iexact Ha

/-- A load, when what it reads is known. -/
theorem load_as {s : Shape} {e : EltTy} {cs : CoreSpace} {m : Memref sig .tc cs s e} {r : Rect s} {hl : m.view.LoadsAt r} {α : Type} {Q : α → sProp 𝕄}
    {k : (r.shape.Idx → Elt F e) → Prog (TpuEff nD τ sig (Elt F) Λ₀ .tc) α} {S : Finset (Idx ((m.access r).loc (c : Thread nD τ)))}
    {f : Buf (Elt F) ((m.access r).loc (c : Thread nD τ))} {v : r.shape.Idx → Elt F e} (hS : (m.access r).set ⊆ S) (hv : (m.access r).read (Elt F) f = v) :
    ((m.access r).loc (c : Thread nD τ) ↦[S]{fullShare} f)
      ⊢ (iprop((((m.access r).loc (c : Thread nD τ) ↦[S]{fullShare} f) -∗ Runs c (k v) Q) -∗ Runs c (.op (.load m r hl) k) Q) : sProp 𝕄) := by
  subst hv; exact wp_load_rect 𝒱₀ (c : Thread nD τ) none Set.univ hS

theorem part1 {Q : (Σ' (d0 : Dev nD) (v2 : BitVec 32) (v5 : BitVec 32) (v8 : BitVec 32) (v9 : BitVec 32) (v10 : Sems sig S_) (v19 : IVec S1x1024 1) (v24 : BitVec 32) (v25 : IVec S1x1024 32) (v31 : IVec S1x1024 32) (v33 : IVec S1x1024 1), IVec S1x1024 32) → sProp 𝕄} :
    iprop(invs p K ∗ levAts L lv ∗ first p c)
      ⊢ iprop((second p c -∗ Q ⟨c, Scalar.remsi (Scalar.divsi (Dev.word c) 4#32) 2#32, meW c, Scalar.remsi (Scalar.divsi (Dev.word c) 1#32) 2#32,
          Scalar.subi 1#32 (meW c), SemArray.scalar (sig.barrier 0 rfl), leaves (F := F) c (p.d c), p.n c,
          iota .tc S1x1024 32 [1] iota_S1x1024_d1_w32, k0_pay4 (F := F) c (p.d c), k0_pay5, k0_pay6 (F := F) c (p.d c)⟩)
      -∗ Runs c (k0_part1 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7) Q) := by
  rw [k0_part1_eq_skeleton]
  unfold k0_part1_skel
  simp only [semSignalWord, Prog.lift, Prog.bind_op, Prog.bind_ret, Prog.pure_eq_ret, wp_deviceId, show (1#32 : BitVec 32).toInt = ((1 : ℕ) : ℤ) from rfl]
  unfold first second due owns some' meW leaves Plan.n leaveW
  iintro ⟨#HI, #Hlev, ⟨HtB, #HrB, HatB, HcB⟩, ⟨HtX, #HrX, HatX⟩, ⟨HtD, #HrD, HatD⟩, ⟨%fx, %hfx, Hx⟩, ⟨%fd, %hfd, Hd⟩, ⟨%gx, Hxv⟩, ⟨%gd, Hdv⟩, Hpay, ⟨%W, HO⟩⟩ Hk
  ihave #HIB := (inv_at p K (bar_mem (pr c))) $$ HI
  ihave #HIX := (inv_at p K (x_mem c)) $$ HI
  ihave #HID := (inv_at p K (d_mem c)) $$ HI
  iapply (Rounds.wp_signal 𝒱₀ ER (rd p) (c : Thread nD τ) none (dst := (pr c : Thread nD τ)) (sem := barS) (r := 0) (d := ()) (κ := K (barCell (pr c)))
      (mem_of p (pr c) role_bar rfl) (amount_of p (pr c) role_bar 0 ()) () (owed p c 0) rfl) $$ [HO HtB Hpay]
  · isplitr; · iexact HIB
    isplitl [HO]; · iexact HO
    isplitl [HtB]; · iexact HtB
    isplitl [Hpay]
    · iapply (Entails.of_eq (payload_of p (pr c) role_bar 0 ()).symm) $$ Hpay
    iexact HrB
  iintro HO
  iapply (Rounds.wp_copy_pointsTo 𝒱₀ ER (rd p) (c : Thread nD τ) none (src := xM) (dst := xvM) (sem := .dma xS) (q := fullShare)
      (fs := fx) (fd := gx) (r := 0) (d := ()) (κ := K (xCell c))
      (mem_of p c role_x rfl) () Nx rfl (amount_of p c role_x 0 ())
      ((copied c xM xvM fx gx _ hfx).trans (Entails.of_eq (payload_of p c role_x 0 ()).symm))) $$ [Hx Hxv HtX]
  · isplitr; · iexact HIX
    isplitl [Hx]; · iexact Hx
    isplitl [Hxv]; · iexact Hxv
    isplitl [HtX]; · iexact HtX
    iexact HrX
  iintro HcX
  iapply (Rounds.wp_copy_pointsTo 𝒱₀ ER (rd p) (c : Thread nD τ) none (src := dM) (dst := dvM) (sem := .dma dS) (q := fullShare)
      (fs := fd) (fd := gd) (r := 0) (d := ()) (κ := K (dCell c))
      (mem_of p c role_d rfl) () Nd rfl (amount_of p c role_d 0 ())
      ((copied c dM dvM fd gd _ hfd).trans (Entails.of_eq (payload_of p c role_d 0 ()).symm))) $$ [Hd Hdv HtD]
  · isplitr; · iexact HID
    isplitl [Hd]; · iexact Hd
    isplitl [Hdv]; · iexact Hdv
    isplitl [HtD]; · iexact HtD
    iexact HrD
  iintro HcD
  iapply (Rounds.wp_wait_rest_token 𝒱₀ ER (rd p) (c : Thread nD τ) none (κ := K (dCell c))
      (wpE_waitDma2_eq (src := dM) (dst := dvM) 𝒱₀ (c : Thread nD τ) none Set.univ) (Set.mem_univ _) () (O := owed p c 0) (W := W) (R := 0) (m := 0) (T := ∅)
      ((Nat.zero_add _).trans (expect_of p c role_d rfl).symm)) $$ [HcD HO HatD]
  · isplitr; · iexact HID
    isplitl [HcD]; · iexact HcD
    isplitl [HO]; · iexact HO
    isplitr; · iapply (mayWait_own p c (.dma dS) (by rw [role_d]; rfl)); iexact Hlev
    iexact HatD
  iintro ⟨HO, HatD, -, Hpay⟩
  ihave Hp := (Entails.of_eq (rest_of p c role_d rfl)) $$ Hpay
  unfold pay owns
  icases Hp with ⟨⟨%f, %hf, Hdv⟩, Hd⟩
  iapply (load_as c (m := dvM) (r := Rect.unit (s := S1x1024) ![0, 0] S1x1024.size inb_S1x1024_S1x1024_0_0) (S := dvM.view.set) (f := f) (v := p.d c)
    (by rw [show dvM.view.set = Finset.univ from View.set_whole _]; exact Finset.subset_univ _)
    ((Memref.read_access_unit_zero (Elt F) cc0_scratch1 (by decide) _ f).trans hf)) $$ Hdv
  iintro Hdv
  iapply runs_ret
  iapply Hk
  isplitl [HatB HcB]
  · isplitl [HatB]; · iexact HatB
    iexact HcB
  isplitl [HatX HcX]
  · isplitl [HatX]; · iexact HatX
    iexact HcX
  isplitr [HO]
  · isplitl [HatD]; · iexact HatD
    isplitl [Hdv]; · iexists f; iexact Hdv
    iexact Hd
  iexists _; iexact HO

/-! ## The stretch that waits for `x` and for the barrier, and sends the first block -/

/-- What each block's send needs of the device's own. -/
def sendOwn (i : Fin 8) : sProp 𝕄 :=
  iprop(dutyTok ER (sndCell c i) 0 () ∗ dutyTok ER (rcvCell (pr c) i) 0 () ∗ reached ER (sndCell c i) 0 ∗ some' c (part sbM i))

theorem sendPre_one (i : Fin 8) : iprop(sendOwn (F := F) c i ∗ barBlock p c i) ⊢ sendPre p c i := by
  unfold sendOwn sendPre
  iintro ⟨⟨H1, H2, H3, H4⟩, H5⟩
  isplitl [H1]; · iexact H1
  isplitl [H2]; · iexact H2
  isplitl [H3]; · iexact H3
  isplitl [H4]; · iexact H4
  iexact H5

/-- With what the barrier brings, every block can be sent. -/
theorem sendPre_all : iprop((bigSep Finset.univ fun i => sendOwn (F := F) c i) ∗ pay p c .bar) ⊢ upTo (sendPre p c) (sendPost p c) 0 := by
  unfold pay
  rw [← bigSep_sep']
  exact (bigSep_mono fun i _ => sendPre_one p c i).trans (upTo_zero _ _)

/-- What it leaves besides the blocks. -/
def third : sProp 𝕄 :=
  iprop(atPos ER (barCell c) (0 + 1) ∅ 0 ∗ (atPos ER (xCell c) (0 + 1) ∅ 0 ∗ some' c xvM ∗ owns (c : Thread nD τ) xM fullShare (p.x c))
    ∗ (atPos ER (dCell c) (0 + 1) ∅ 0 ∗ some' c dvM ∗ owns (c : Thread nD τ) dM fullShare (p.d c)))

theorem part5 (he : p.Even) {lo hi r n : BitVec 32} (hb : SendBits p c lo hi) {g : IVec S1x1024 32} (hs : ∀ i, sentBlock g (p.x c) i = p.sent c i)
    (v2 v8 v9 : BitVec 32)
    {Q : (Σ' (v159 : BitVec 32) (v179 : BitVec 32) (v180 : Vec F S1024x512 .f32) (v189 : BitVec 32), BitVec 32) → sProp 𝕄} :
    iprop(invs p K ∗ levAts L lv ∗ second p c ∗ bigSep Finset.univ fun i => sendOwn (F := F) c i)
      ⊢ iprop((third p c ∗ sending p c 1
          -∗ Q ⟨firstBlock r, endBlock r n, p.x c, Scalar.extui (Scalar.andi (Scalar.cmpi .sle lo 1#32) (Scalar.cmpi .sgt hi 1#32)), 0#32⟩)
      -∗ Runs c (k0_part5 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        c v2 v8 v9 (SemArray.scalar (sig.barrier 0 rfl)) n g r lo hi (Scalar.divsi r 128#32)
        (Scalar.cmpi .ne (Scalar.subi (Scalar.extui (Scalar.cmpi .sgt r 0#32) : BitVec 32) (Scalar.extui (Scalar.cmpi .slt r 0#32)))
          (Scalar.subi (Scalar.extui (Scalar.cmpi .sgt 128#32 0#32)) (Scalar.extui (Scalar.cmpi .slt 128#32 0#32))))
        (Scalar.cmpi .ne (Scalar.remsi r 128#32) 0#32)) Q) := by
  rw [k0_part5_eq_skeleton]
  unfold k0_part5_skel
  simp only [semWaitWord, Prog.lift, Prog.bind_op, Prog.bind_ret, Prog.pure_eq_ret, show (1#32 : BitVec 32).toInt = ((1 : ℕ) : ℤ) from rfl]
  unfold second due some' firstBlock endBlock floor128
  iintro ⟨#HI, #Hlev, ⟨⟨HatB, HcB⟩, ⟨HatX, HcX⟩, ⟨HatD, ⟨%gd, Hdv⟩, Hd⟩, ⟨%W, HO⟩⟩, Hs⟩ Hk
  ihave #HIB := (inv_at p K (bar_mem c)) $$ HI
  ihave #HIX := (inv_at p K (x_mem c)) $$ HI
  iapply (Rounds.wp_wait_rest_token 𝒱₀ ER (rd p) (c : Thread nD τ) none (κ := K (xCell c))
      (wpE_waitDma2_eq (src := xM) (dst := xvM) 𝒱₀ (c : Thread nD τ) none Set.univ) (Set.mem_univ _) () (O := owed p c 0) (W := W) (R := 0) (m := 0) (T := ∅)
      ((Nat.zero_add _).trans (expect_of p c role_x rfl).symm)) $$ [HcX HO HatX]
  · isplitr; · iexact HIX
    isplitl [HcX]; · iexact HcX
    isplitl [HO]; · iexact HO
    isplitr; · iapply (mayWait_own p c (.dma xS) (by rw [role_x]; rfl)); iexact Hlev
    iexact HatX
  iintro ⟨HO, HatX, -, Hpay⟩
  ihave Hp := (Entails.of_eq ((rest_of p c role_x rfl).trans (by unfold pay owns; rfl))) $$ Hpay
  icases Hp with ⟨⟨%f, %hf, Hxv⟩, Hx⟩
  iapply (load_as c (m := xvM) (r := Rect.unit (s := S1024x512) ![0, 0] S1024x512.size inb_S1024x512_S1024x512_0_0) (S := xvM.view.set) (f := f) (v := p.x c)
    (by rw [show xvM.view.set = Finset.univ from View.set_whole _]; exact Finset.subset_univ _)
    ((Memref.read_access_unit_zero (Elt F) cc0_scratch0 (by decide) _ f).trans hf)) $$ Hxv
  iintro Hxv
  iapply (Rounds.wp_wait_rest_token 𝒱₀ ER (rd p) (c : Thread nD τ) none (κ := K (barCell c))
      (wpE_semWait_eq 𝒱₀ (c : Thread nD τ) none Set.univ) (Set.mem_univ _) () (O := owed p c 0) (R := 0) (m := 0) (T := ∅)
      ((Nat.zero_add 1).trans (expect_of p c role_bar rfl).symm)) $$ [HcB HO HatB]
  · isplitr; · iexact HIB
    isplitl [HcB]; · iexact HcB
    isplitl [HO]; · iexact HO
    isplitr; · iapply (mayWait_bar p c); iexact Hlev
    iexact HatB
  iintro ⟨HO, HatB, -, Hpay⟩
  ihave Hb := (Entails.of_eq (rest_of p c role_bar rfl)) $$ Hpay
  ihave HS : iprop(sending p c 0) $$ [Hs Hb HO]
  · unfold sending due
    isplitr [HO]
    · iapply (sendPre_all p c)
      isplitl [Hs]; · iexact Hs
      iexact Hb
    iexists _; iexact HO
  iapply (send_next p K he 0 (k := 0) rfl (hb 0) rfl (hs 0) (dev2 c) rfl rfl) $$ [HS]
  · isplitr; · iexact HI
    iexact HS
  iintro HS
  iapply runs_ret
  iapply Hk
  isplitr [HS]
  · unfold third some' owns
    isplitl [HatB]; · iexact HatB
    isplitl [HatX Hxv Hx]
    · isplitl [HatX]; · iexact HatX
      isplitl [Hxv]; · iexists f; iexact Hxv
      iexact Hx
    isplitl [HatD]; · iexact HatD
    isplitl [Hdv]; · iexists gd; iexact Hdv
    iexact Hd
  iexact HS

/-! ## The stretches of word arithmetic -/

theorem runs_bind {α β : Type} {e : Prog (TpuEff nD τ sig (Elt F) Λ₀ .tc) α} {k : α → Prog (TpuEff nD τ sig (Elt F) Λ₀ .tc) β} {Q : β → sProp 𝕄} :
    Runs c e (fun a => Runs c (k a) Q) ⊢ Runs c (e >>= k) Q := by
  unfold Runs; rw [wp_bind]

theorem part2 (v25 v31 : IVec S1x1024 32) (v33 : IVec S1x1024 1) (v34 : IVec S1x1024 32) {Q : (Σ' (v73 : IVec S1x1024 32), IVec S1x1024 32) → sProp 𝕄} :
    Q ⟨k0_pay7 v25 v31 v33 v34, k0_pay8⟩ ⊢ Runs c (k0_part2 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        v25 v31 v33 v34) Q := by
  rw [k0_part2_eq_skeleton]; exact runs_ret c

theorem part3 (n : BitVec 32) (v19 : IVec S1x1024 1) (v25 v73 v74 : IVec S1x1024 32)
    {Q : (Σ' (v88 : BitVec 32) (v94 : IVec S1x1024 32) (v102 : IVec S1x1024 32) (v105 : BitVec 32) (c128_i32_41 : BitVec 32) (v106 : BitVec 32) (v111 : BitVec 32) (v113 : BitVec 32), BitVec 32) → sProp 𝕄} :
    Q ⟨outStart c n, k0_pay10 (meW c) v19 n v25 v73 v74, k0_pay11 (meW c) v19 n v25 v73 v74, inStart c n, 128#32, Scalar.divsi (outStart c n) 128#32,
        Scalar.subi (Scalar.extui (Scalar.cmpi .sgt (outStart c n) 0#32) : BitVec 32) (Scalar.extui (Scalar.cmpi .slt (outStart c n) 0#32)),
        Scalar.extui (Scalar.cmpi .sgt 128#32 0#32), 0#32⟩
      ⊢ Runs c (k0_part3 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        (meW c) v19 n v25 v73 v74) Q := by
  rw [k0_part3_eq_skeleton]; exact runs_ret c

theorem part4 (n s r : BitVec 32) {Q : (Σ' (v122 : BitVec 32) (v142 : BitVec 32) (v143 : BitVec 32) (v154 : BitVec 1), BitVec 1) → sProp 𝕄} :
    Q ⟨firstBlock s, endBlock s n, Scalar.divsi r 128#32,
        Scalar.cmpi .ne (Scalar.subi (Scalar.extui (Scalar.cmpi .sgt r 0#32) : BitVec 32) (Scalar.extui (Scalar.cmpi .slt r 0#32)))
          (Scalar.subi (Scalar.extui (Scalar.cmpi .sgt 128#32 0#32)) (Scalar.extui (Scalar.cmpi .slt 128#32 0#32))),
        Scalar.cmpi .ne (Scalar.remsi r 128#32) 0#32⟩
      ⊢ Runs c (k0_part4 dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7
        n s r 128#32 (Scalar.divsi s 128#32)
        (Scalar.subi (Scalar.extui (Scalar.cmpi .sgt s 0#32) : BitVec 32) (Scalar.extui (Scalar.cmpi .slt s 0#32)))
        (Scalar.extui (Scalar.cmpi .sgt 128#32 0#32)) 0#32) Q := by
  rw [k0_part4_eq_skeleton]; exact runs_ret c

/-! ## The whole body -/

/-- What the body needs. -/
def bodyPre : sProp 𝕄 :=
  iprop(first p c ∗ (bigSep Finset.univ fun i => sendOwn (F := F) c i) ∗ (bigSep Finset.univ fun i => recvPre p c i)
    ∗ bigSep Finset.univ fun i : Fin 8 => atPos ER (sndCell c i) 0 ∅ 0)
/-- What it leaves. -/
def bodyPost : sProp 𝕄 :=
  iprop(third p c ∗ (bigSep Finset.univ fun i => recvPost p c i) ∗ (bigSep Finset.univ fun i => leftPost p c i) ∗ due c 0)

theorem leftPre_all : iprop((bigSep Finset.univ fun i : Fin 8 => atPos ER (sndCell c i) 0 ∅ 0) ∗ upTo (sendPre p c) (sendPost p c) 8)
    ⊢ (upTo (leftPre p c) (leftPost p c) 0 : sProp 𝕄) := by
  have h : iprop((bigSep Finset.univ fun i : Fin 8 => atPos ER (sndCell c i) 0 ∅ 0) ∗ bigSep Finset.univ fun i => sendPost p c i)
      ⊢ (bigSep Finset.univ fun i => leftPre p c i : sProp 𝕄) := by
    rw [← bigSep_sep']; exact BI.Entails.refl _
  exact ((BI.sep_mono (BI.Entails.refl _) (upTo_eight _ _)).trans h).trans (upTo_zero _ _)

set_option maxHeartbeats 2000000 in
theorem body_run (he : p.Even) (hu : p.Unread) {Q : PUnit → sProp 𝕄} :
    iprop(invs p K ∗ levAts L lv ∗ bodyPre p c)
      ⊢ iprop((bodyPost p c -∗ Q ⟨⟩)
      -∗ Runs c (cc0_body dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7) Q) := by
  have hb : SendBits p c (firstBlock (outStart c (p.n c))) (endBlock (outStart c (p.n c)) (p.n c)) := fun i => decide_eq_true_iff.symm
  have hr : RecvBits p c (firstBlock (inStart c (p.n c))) (endBlock (inStart c (p.n c)) (p.n c)) := fun i => decide_eq_true_iff.symm
  have hs : ∀ i, sentBlock (goesTo (F := F) c (p.d c)) (p.x c) i = p.sent c i := fun i => rfl
  have ho : ∀ i v, outBlock (p.n c) (inStart c (p.n c)) (staysAt (F := F) c (p.d c)) (p.x c) i v = p.out c i v := fun i v => rfl
  rw [cc0_body_eq_skeleton]
  unfold cc0_body_skel bodyPre
  rw [k0_part12_eq_skeleton]
  unfold k0_part12_skel
  simp only [Prog.lift, Prog.bind_op, Prog.bind_ret, Prog.pure_eq_ret]
  iintro ⟨#HI, #Hlev, Hf, Hs, Hr, Hat⟩ Hk
  iapply runs_bind
  iapply runs_bind
  iapply (part1 p K c) $$ [Hf]
  · isplitr; · iexact HI
    isplitr; · iexact Hlev
    iexact Hf
  iintro Hf
  iapply runs_bind
  iapply part2
  iapply runs_bind
  iapply part3
  iapply runs_bind
  iapply part4
  iapply runs_bind
  iapply (part5 p K c he hb hs) $$ [Hf Hs]
  · isplitr; · iexact HI
    isplitr; · iexact Hlev
    isplitl [Hf]; · iexact Hf
    iexact Hs
  iintro ⟨H3, HS⟩
  iapply runs_bind
  iapply (part6 p K he hb hs) $$ [HS]
  · isplitr; · iexact HI
    iexact HS
  iintro HS
  iapply runs_bind
  iapply (part7 p K he hu hb hr hs ho) $$ [HS Hr]
  · isplitr; · iexact HI
    isplitl [HS]; · iexact HS
    iapply (upTo_zero _ _) $$ Hr
  iintro ⟨Hs, HS⟩
  iapply runs_bind
  iapply (part8 p K hu hr ho) $$ [HS]
  · isplitr; · iexact HI
    iexact HS
  iintro HS
  iapply runs_bind
  iapply (part9 p K hu hr ho) $$ [HS]
  · isplitr; · iexact HI
    iexact HS
  iintro HS
  iapply runs_bind
  iapply (part10 p K hu hr ho) $$ [HS]
  · isplitr; · iexact HI
    iexact HS
  iintro HS
  iapply runs_bind
  iapply (part11 p K hu hb hr ho) $$ [HS Hs Hat]
  · isplitr; · iexact HI
    isplitl [HS]; · iexact HS
    iapply (leftPre_all p c)
    isplitl [Hat]; · iexact Hat
    iexact Hs
  iintro ⟨Hr, HS⟩
  iapply (left_next p K 3 (k := 3) rfl (hb 3) rfl rfl) $$ [HS]
  · isplitr; · iexact HI
    iexact HS
  iintro HS
  iapply (left_next p K 4 (k := 4) rfl (hb 4) rfl rfl) $$ [HS]
  · isplitr; · iexact HI
    iexact HS
  iintro HS
  iapply (left_next p K 5 (k := 5) rfl (hb 5) rfl rfl) $$ [HS]
  · isplitr; · iexact HI
    iexact HS
  iintro HS
  iapply (left_next p K 6 (k := 6) rfl (hb 6) rfl rfl) $$ [HS]
  · isplitr; · iexact HI
    iexact HS
  iintro HS
  iapply runs_ret
  iapply (left_next p K 7 (k := 7) rfl (hb 7) rfl rfl) $$ [HS]
  · isplitr; · iexact HI
    iexact HS
  iintro HS
  iapply runs_ret
  iapply Hk
  unfold bodyPost leaving
  icases HS with ⟨Hl, HO⟩
  isplitl [H3]; · iexact H3
  isplitl [Hr]; · iapply (upTo_eight _ _) $$ Hr
  isplitl [Hl]; · iapply (upTo_eight _ _) $$ Hl
  iexact HO

end Body

end Cert.Trade
-- ==== Proof.Deal.lean ====
/-
The launch: every cell's invariant is made, each device is dealt its positions, its rights to open its own cells,
the duties it will pay and the units the other device will pay to it.
-/
module

public import proofs.«01_k».proof.Proof.Body

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A device's eighteen own semaphores, by what they are for -/

/-- Two for the inputs, eight for what is sent, eight for what is received. -/
def ownEquiv : Fin 2 ⊕ (Fin 8 ⊕ Fin 8) ≃ Fin 18 := (Equiv.sumCongr (Equiv.refl _) finSumFinEquiv).trans finSumFinEquiv

theorem own_x : osem (ownEquiv (.inl 0)) = .dma xS := by decide
theorem own_d : osem (ownEquiv (.inl 1)) = .dma dS := by decide
theorem own_snd (i : Fin 8) : osem (ownEquiv (.inr (.inl i))) = .dma (sndS i) := by revert i; decide
theorem own_rcv (i : Fin 8) : osem (ownEquiv (.inr (.inr i))) = .dma (rcvS i) := by revert i; decide

theorem own_split (Ψ : SemLoc sig → sProp 𝕄) :
    (bigSep Finset.univ fun k : Fin 18 => Ψ (osem k))
      = iprop((Ψ (.dma xS) ∗ Ψ (.dma dS)) ∗ (bigSep Finset.univ fun i => Ψ (.dma (sndS i))) ∗ bigSep Finset.univ fun i => Ψ (.dma (rcvS i))) := by
  rw [bigSep_univ_equiv ownEquiv, bigSep_univ_sum, bigSep_univ_sum, BI.bigSep_fin_two, own_x, own_d]
  simp only [own_snd, own_rcv]
  rfl

/-- Two families side by side are a family of pairs. -/
theorem both {I : Type} [Fintype I] {A B : I → sProp 𝕄} :
    iprop(bigSep Finset.univ A ∗ bigSep Finset.univ B) ⊢ bigSep Finset.univ fun i => iprop(A i ∗ B i) :=
  Entails.of_eq (bigSep_sep' _ _ _).symm
theorem apart {I : Type} [Fintype I] {A B : I → sProp 𝕄} :
    (bigSep Finset.univ fun i => iprop(A i ∗ B i)) ⊢ iprop(bigSep Finset.univ A ∗ bigSep Finset.univ B) :=
  Entails.of_eq (bigSep_sep' _ _ _)

/-! ## Cells and tokens -/

theorem osem_ne_bar (k : Fin 18) : osem k ≠ .reg barS := by intro h; cases h

theorem disjoint_cells : Disjoint (barCells : Finset (GSem nD τ sig)) scCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

/-- The semaphores that may be paid: the barrier and the eighteen. -/
def tsem : Unit ⊕ Fin 18 → SemLoc sig := Sum.elim (fun _ => .reg barS) osem
theorem tsem_inj : Function.Injective tsem := fun a b h => by
  rcases a with a | a <;> rcases b with b | b
  · rfl
  · exact absurd h.symm (osem_ne_bar b)
  · exact absurd h (osem_ne_bar a)
  · exact congrArg _ (osem_inj h)

/-- One duty for every cell. -/
def toks : Finset (GSem nD τ sig × ℕ × Unit) :=
  Finset.univ.map ⟨fun x : Dev nD × (Unit ⊕ Fin 18) => (((x.1 : Thread nD τ), tsem x.2), 0, ()), fun _ _ h =>
    Prod.ext (congrArg (fun t : GSem nD τ sig × ℕ × Unit => t.1.1.1) h)
      (tsem_inj (congrArg (fun t : GSem nD τ sig × ℕ × Unit => t.1.2) h))⟩

/-- The duties of device `c`'s own cells. -/
def ownToks (c : Dev nD) : sProp 𝕄 :=
  iprop(dutyTok ER (barCell c) 0 () ∗ (dutyTok ER (xCell c) 0 () ∗ dutyTok ER (dCell c) 0 ())
    ∗ (bigSep Finset.univ fun i => dutyTok ER (sndCell c i) 0 ()) ∗ bigSep Finset.univ fun i => dutyTok ER (rcvCell c i) 0 ())
/-- The duties that device `c` pays: the other device's barrier and receive cells, and its own others. -/
def payToks (c : Dev nD) : sProp 𝕄 :=
  iprop(dutyTok ER (barCell (pr c)) 0 () ∗ (dutyTok ER (xCell c) 0 () ∗ dutyTok ER (dCell c) 0 ())
    ∗ (bigSep Finset.univ fun i => dutyTok ER (sndCell c i) 0 ()) ∗ bigSep Finset.univ fun i => dutyTok ER (rcvCell (pr c) i) 0 ())

theorem toks_eq : bigSep toks (fun t => (dutyTok ER t.1 t.2.1 t.2.2 : sProp 𝕄)) = bigSep Finset.univ fun c : Dev nD => ownToks c := by
  unfold toks; rw [bigSep_map, bigSep_univ_prod]
  refine bigSep_congr fun c _ => ?_
  rw [bigSep_univ_sum, Finset.univ_unique, bigSep_singleton]
  unfold ownToks
  exact congrArg (fun X : sProp 𝕄 => BI.sep (dutyTok ER (barCell c) 0 () : sProp 𝕄) X)
    (own_split (fun s => (dutyTok ER ((c : Thread nD τ), s) 0 () : sProp 𝕄)))

/-- Every token reaches the device that pays it. -/
theorem toks_around : (bigSep Finset.univ fun c : Dev nD => (ownToks c : sProp 𝕄)) ⊢ bigSep Finset.univ fun c : Dev nD => payToks c := by
  unfold ownToks payToks
  simp only [bigSep_sep']
  rw [bigSep_univ_equiv swap (fun c : Dev nD => (dutyTok ER (barCell c) 0 () : sProp 𝕄)),
    bigSep_univ_equiv swap (fun c : Dev nD => bigSep Finset.univ fun i : Fin 8 => (dutyTok ER (rcvCell c i) 0 () : sProp 𝕄))]
  exact BI.Entails.refl (_ : sProp 𝕄)

/-! ## The units the other device will pay -/

section Credit

variable (p : Plan F)

theorem barCell_inj {c d : Dev nD} (h : barCell c = barCell d) : c = d := congrArg (fun g : GSem nD τ sig => g.1.1) h
theorem rcvCell_inj {c d : Dev nD} {i j : Fin 8} (h : rcvCell c i = rcvCell d j) : c = d ∧ i = j :=
  ⟨congrArg (fun g : GSem nD τ sig => g.1.1) h, by
    have h' := congrArg (fun g : GSem nD τ sig => role g.2) h
    simp only [role_rcv] at h'
    exact Role.recv.inj h'⟩
theorem rcv_ne_bar (c d : Dev nD) (i : Fin 8) : rcvCell c i ≠ barCell d := fun h => by cases congrArg Prod.snd h

theorem owes_bar (d c : Dev nD) : O₀ p d (barCell c) () = if d = pr c then 1 else 0 := by
  unfold O₀
  rw [Pi.add_apply, Finsupp.add_apply, owed_apply, Finset.sum_eq_zero fun i _ => if_neg fun h => rcv_ne_bar _ _ _ h.2.symm,
    tallyAt_apply, Nat.zero_add]
  refine if_congr ⟨fun h => ?_, fun h => ?_⟩ rfl rfl
  · rw [barCell_inj h.1, pr_pr]
  · rw [h, pr_pr]; exact ⟨rfl, rfl⟩

theorem owes_rcv (he : p.Even) (d c : Dev nD) (i : Fin 8) :
    O₀ p d (rcvCell c i) () = if d = pr c then (if p.rAct c i = true then N else 0) else 0 := by
  unfold O₀
  rw [Pi.add_apply, Finsupp.add_apply, owed_apply, tallyAt_apply, if_neg fun h => rcv_ne_bar _ _ _ h.1, Nat.add_zero]
  by_cases hd : d = pr c
  · subst hd
    have hs : p.sAct (pr c) i = p.rAct c i := by rw [← he.rAct_pr, pr_pr]
    rw [if_pos rfl, pr_pr, Finset.sum_eq_single i, hs]
    · exact if_congr ⟨fun h => h.1.2, fun h => ⟨⟨Nat.zero_le _, h⟩, rfl⟩⟩ rfl rfl
    · intro j _ hj; exact if_neg fun h => hj (rcvCell_inj h.2).2.symm
    · intro h; exact absurd (Finset.mem_univ i) h
  · rw [if_neg hd]
    refine Finset.sum_eq_zero fun j _ => if_neg fun h => hd ?_
    rw [(rcvCell_inj h.2).1, pr_pr]

theorem launch_bar (c : Dev nD) :
    tallyOn (barCell c) (launchCredit (Pipeline.owing (O₀ p)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owes_bar p d c,
    Finset.sum_ite_eq' Finset.univ (pr c) fun _ => 1, if_pos (Finset.mem_univ _)]

theorem launch_rcv (he : p.Even) (c : Dev nD) (i : Fin 8) :
    tallyOn (rcvCell c i) (launchCredit (Pipeline.owing (O₀ p)) 0 (rcvCell c i))
      = (tallyAt (rcvCell c i) () (if p.rAct c i = true then N else 0) : CellTallies nD τ sig Unit) := by
  unfold tallyAt; refine congrArg _ (Finsupp.ext fun u => ?_); cases u
  rw [Pipeline.launchCredit_owing, Finsupp.single_eq_same, Finset.sum_congr rfl fun d _ => owes_rcv p he d c i,
    Finset.sum_ite_eq' Finset.univ (pr c) fun _ => _, if_pos (Finset.mem_univ _)]

/-- The units device `c` waits for: the barrier's, and one block's for every block it receives. -/
def credits (c : Dev nD) : sProp 𝕄 :=
  iprop(cred (tallyAt (barCell c) () 1) ∗ bigSep Finset.univ fun i : Fin 8 => if p.rAct c i then cred (tallyAt (rcvCell c i) () N) else iprop(emp))

def rcvEmb : Fin 8 ↪ SemLoc sig := ⟨fun i => .dma (rcvS i), fun i j h => by
  have := congrArg role h; simp only [role_rcv] at this; exact Role.recv.inj this⟩

theorem credits_of_launch (he : p.Even) (c : Dev nD) : (Pipeline.launchCred (O₀ p) c : sProp 𝕄) ⊢ credits p c := by
  unfold Pipeline.launchCred credits
  rw [bigSep_univ_at _ (SemLoc.reg barS), launch_bar]
  refine sep_mono_right ?_
  have hs : Finset.univ.map rcvEmb ⊆ (Finset.univ : Finset (SemLoc sig)).erase (.reg barS) := by
    intro s h
    obtain ⟨i, -, rfl⟩ := Finset.mem_map.mp h
    exact Finset.mem_erase.mpr ⟨fun h => (by cases h), Finset.mem_univ _⟩
  refine (bigSep_subset hs).trans ?_
  rw [bigSep_map]
  refine bigSep_mono fun i _ => ?_
  show (cred (tallyOn (rcvCell c i) (launchCredit (Pipeline.owing (O₀ p)) 0 (rcvCell c i))) : sProp 𝕄) ⊢ _
  rw [launch_rcv p he]
  by_cases h : p.rAct c i = true
  · rw [if_pos h, if_pos h]
  · rw [if_neg h, if_neg h]; iintro -; iempintro

end Credit

/-! ## What each device starts with -/

section Start

variable (p : Plan F)

/-- The launch element: the staging buffer's, and the protocol's. -/
def u₀ : UU :=
  (initOf (Pipeline.cells cfgs cellOf_inj) (Pipeline.launchToks cfgs cellOf_inj), launchOf barCells scCells toks)

/-- All of `X` on the first device. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells scCells toks)))

/-- What every device may consult: all the invariants, and that every barrier cell is at its round. -/
def records (κ : GSem nD τ sig → ℕ) : sProp 𝕄 :=
  iprop(invs p κ ∗ bigSep barCells fun g => reached ER g 0)
instance records_persistent (κ : GSem nD τ sig → ℕ) : BI.Persistent (records p κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- A device's own part: its barrier position, the rights to open its eighteen cells, the duties it pays. -/
def linear (c : Dev nD) : sProp 𝕄 :=
  iprop(atPos ER (barCell c) 0 ∅ 0 ∗ (bigSep Finset.univ fun k : Fin 18 => openTok ER ((c : Thread nD τ), osem k)) ∗ payToks c)

/-- What a device brings to the kernel. -/
def start (c : Dev nD) : sProp 𝕄 :=
  iprop((∃ K, invs p K ∗ reached ER (barCell (pr c)) 0 ∗ linear c) ∗ credits p c)

/-- What rides beside the buffers: that, the generator's register, and the core owing what it will pay. -/
def R (c : Dev nD) : sProp 𝕄 := iprop(start p c ∗ (∃ r, prngReg c r) ∗ ∃ W, owes (c : Thread nD τ) (O₀ p c) W)

/-- What of the launch is not the protocol's. -/
def bundle (c : Dev nD) : sProp 𝕄 :=
  iprop(credits p c ∗ (∃ r, prngReg c r) ∗ owes (c : Thread nD τ) (O₀ p c) ∅)

theorem R_intro (κ : GSem nD τ sig → ℕ) (c : Dev nD) : iprop(records p κ ∗ (linear c ∗ bundle p c)) ⊢ R p c := by
  unfold records bundle R start
  iintro ⟨⟨#HI, #HR⟩, Hl, Hc, Hp, HO⟩
  isplitl [Hl Hc]
  · isplitl [Hl]
    · iexists κ
      isplitr; · iexact HI
      isplitr; · iapply (reached_at (F := F) (pr c)); iexact HR
      iexact Hl
    iexact Hc
  isplitl [Hp]; · iexact Hp
  iexists ∅; iexact HO

theorem unscoped_eq : ∀ s : SemLoc sig, s.isScoped .tc = false → s = .reg barS := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- The launch, on every device at once. -/
theorem deal (he : p.Even) (ρ : Dev nD → PrngReg) :
    iprop((bigSep Finset.univ fun c : Dev nD => iprop(unscopedSems0 c ∗ owes (c : Thread nD τ) (O₀ p c) ∅
        ∗ Pipeline.launchCred (O₀ p) c ∗ prngReg c (ρ c) ∗ G c)) ∗ levAts L lv)
      ⊢ (|={Set.univ}=> bigSep Finset.univ (R p) : sProp 𝕄) := by
  have hcore (c : Dev nD) : iprop(unscopedSems0 c ∗ owes (c : Thread nD τ) (O₀ p c) ∅
        ∗ Pipeline.launchCred (O₀ p) c ∗ prngReg c (ρ c) ∗ G c)
      ⊢ (iprop(bundle p c ∗ (semVal (barCell c) 0 ∗ G c)) : sProp 𝕄) := by
    rw [unscopedSems0_eq]
    unfold bundle
    iintro ⟨Hs, HO, Hc, Hp, HG⟩
    isplitl [HO Hc Hp]
    · isplitl [Hc]; · iapply (credits_of_launch p he c); iexact Hc
      isplitl [Hp]; · iexists (ρ c); iexact Hp
      iexact HO
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => bigSep Finset.univ fun k : Fin 18 => (openTok ER ((c : Thread nD τ), osem k) : sProp 𝕄)) :=
    Entails.of_eq (by rw [bigSep_map, bigSep_univ_prod]; rfl)
  have hG : bigSep Finset.univ (G (F := F)) ⊢ BI.own (ER (launchOf barCells scCells toks)) := Entails.of_eq (bigSep_onFirst (F := F) _)
  have hall : (bigSep Finset.univ fun c : Dev nD => iprop(unscopedSems0 c ∗ owes (c : Thread nD τ) (O₀ p c) ∅
        ∗ Pipeline.launchCred (O₀ p) c ∗ prngReg c (ρ c) ∗ G c))
      ⊢ (bigSep Finset.univ fun c : Dev nD => iprop(bundle p c ∗ (semVal (barCell c) 0 ∗ G c)) : sProp 𝕄) :=
    bigSep_mono fun c _ => hcore c
  iintro ⟨H, -⟩
  ihave H1 := hall $$ H
  ihave H2 := apart $$ H1; icases H2 with ⟨HB, H3⟩
  ihave H4 := apart $$ H3; icases H4 with ⟨Hv, HG⟩
  ihave Hu := hG $$ HG
  imod (Rounds.fund_launch ER (rd p) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records p κ) (Φ := fun c => iprop(linear c ∗ bundle p c)) fun c _ => R_intro p κ c)
  isplitr
  · unfold records invs
    isplitr; · iexact Hinv
    iexact Hr
  iapply both
  isplitr [HB]
  · unfold linear
    iapply both; isplitl [Hat]; · iapply hat $$ Hat
    iapply both; isplitl [Hopen]; · iapply ho $$ Hopen
    iapply (toks_around (F := F))
    iapply (Entails.of_eq (toks_eq (F := F))) $$ Htok
  · iexact HB

end Start

end Cert.Trade

end
-- ==== Proof.Blocks.lean ====
/-
The kernel's entry and exit: a buffer is its eight blocks of rows; the device's cells are opened with their counters
and closed again; the receive blocks that the other device will write are lent with the barrier.
-/
module

public import proofs.«01_k».proof.Proof.Deal
public import Idealize.ShloMosaic.Lib.ValueIdxCore

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## Eight blocks are the buffer -/

theorem blk_apart (i j : Fin 8) (h : i ≠ j) : Disjoint (blk i).set (blk j).set :=
  Rect.unit_disjoint (0 : Fin 2) (by
    have := Fin.val_ne_of_ne h
    show 128 * i.val + 128 ≤ 128 * j.val ∨ 128 * j.val + 128 ≤ 128 * i.val
    omega)

/-- The block that row `r` lies in, and its place there. -/
def blockOf (r : Fin 1024) : Fin 8 := ⟨r.val / 128, by omega⟩
def placeOf (r : Fin 1024) : Fin 128 := ⟨r.val % 128, by omega⟩

theorem blk_emb (i : Fin 8) (a : Fin 128) (b : Fin 512) : (blk i).emb (ix2 a b) = ix2 (⟨128 * i.val + a.val, by omega⟩ : Fin 1024) b := by
  funext d
  match d with
  | ⟨0, _⟩ => exact Fin.ext (by show 128 * i.val + 1 * a.val = 128 * i.val + a.val; omega)
  | ⟨1, _⟩ => exact Fin.ext (by show 0 + 1 * b.val = b.val; omega)

theorem blk_all : (Finset.univ : Finset (Fin 8)).biUnion (fun i => (blk i).set) = Finset.univ := by
  refine Finset.eq_univ_iff_forall.mpr fun j => Finset.mem_biUnion.mpr ⟨blockOf (j 0), Finset.mem_univ _, ?_⟩
  rw [Rect.mem_set_unit]
  intro a
  match a with
  | ⟨0, _⟩ =>
    have h : (j 0).val < 1024 := (j 0).isLt
    show 128 * ((j 0).val / 128) ≤ (j 0).val ∧ (j 0).val < 128 * ((j 0).val / 128) + 128
    omega
  | ⟨1, _⟩ =>
    have h : (j 1).val < 512 := (j 1).isLt
    show 0 ≤ (j 1).val ∧ (j 1).val < 0 + 512
    omega

/-- Eight blocks of rows as one array. -/
def stack {V : Type} (v : Fin 8 → S128x512.Idx → V) : S1024x512.Idx → V := fun j => v (blockOf (j 0)) (ix2 (placeOf (j 0)) (j 1))

theorem stack_emb {V : Type} (v : Fin 8 → S128x512.Idx → V) (i : Fin 8) (k : S128x512.Idx) : stack v ((blk i).emb k) = v i k := by
  obtain ⟨a, b, rfl⟩ : ∃ (a : Fin 128) (b : Fin 512), k = ix2 a b := ⟨k 0, k 1, eq_ix2 k⟩
  rw [blk_emb]
  unfold stack
  have h₁ : blockOf (⟨128 * i.val + a.val, by omega⟩ : Fin 1024) = i := Fin.ext (by show (128 * i.val + a.val) / 128 = i.val; omega)
  have h₂ : placeOf (⟨128 * i.val + a.val, by omega⟩ : Fin 1024) = a := Fin.ext (by show (128 * i.val + a.val) % 128 = a.val; omega)
  show v (blockOf ⟨128 * i.val + a.val, _⟩) (ix2 (placeOf ⟨128 * i.val + a.val, _⟩) b) = _
  rw [h₁, h₂]

/-- Device `c`'s result. -/
def Plan.result (p : Plan F) (c : Dev nD) : S1024x512.Idx → Elt F .bf16 := stack (p.outC c)

section Parts

variable (c : Dev nD) {sp : Space} {e : EltTy} (m : Memref sig .tc sp S1024x512 e)

theorem some'_split : (some' c m : sProp 𝕄) ⊢ bigSep Finset.univ fun i => some' c (part m i) := by
  refine (some'_owns c m).trans ?_
  have h (v : S1024x512.Idx → Elt F e) : (owns (c : Thread nD τ) m fullShare v : sProp 𝕄) ⊢ bigSep Finset.univ fun i => some' c (part m i) :=
    (owns_rects (c : Thread nD τ) m fullShare blk (fun _ _ => rfl) blk_apart blk_all v).trans (bigSep_mono fun i _ => owns_some' c (part m i) _)
  iintro ⟨%v, H⟩
  iapply (h v); iexact H

/-- The blocks, each at its own contents, are the buffer at their stack. -/
theorem owns_stack (v : Fin 8 → S128x512.Idx → Elt F e) :
    (bigSep Finset.univ fun i => owns (c : Thread nD τ) (part m i) fullShare (v i)) ⊢ (owns (c : Thread nD τ) m fullShare (stack v) : sProp 𝕄) := by
  have h : (bigSep Finset.univ fun i => owns (c : Thread nD τ) (part m i) fullShare (v i) : sProp 𝕄)
      = bigSep Finset.univ fun i => owns (c : Thread nD τ) (part m i) fullShare (fun k => stack v ((blk i).emb k)) :=
    bigSep_congr fun i _ => congrArg _ (funext fun k => (stack_emb v i k).symm)
  rw [h]
  exact owns_of_rects (c : Thread nD τ) m fullShare blk (fun _ _ => rfl) blk_apart blk_all (stack v)

theorem some'_join : (bigSep Finset.univ fun i => some' c (part m i)) ⊢ (some' c m : sProp 𝕄) := by
  refine (bigSep_mono fun i _ => some'_owns c (part m i)).trans ?_
  refine (bigSep_exists_pi Finset.univ fun (i : Fin 8) (v : S128x512.Idx → Elt F e) => owns (c : Thread nD τ) (part m i) fullShare v).trans ?_
  iintro ⟨%v, H⟩
  iapply (owns_some' c m (stack v))
  iapply (owns_stack c m v); iexact H

end Parts

section Enter

variable (p : Plan F) (K : GSem nD τ sig → ℕ) (c : Dev nD)

/-! ## Opening and closing the device's own cells -/

/-- Its eighteen cells, at their starts. -/
def opened : sProp 𝕄 :=
  bigSep Finset.univ fun k : Fin 18 => iprop(atPos ER ((c : Thread nD τ), osem k) 0 ∅ 0 ∗ reached ER ((c : Thread nD τ), osem k) 0)

theorem open_one (k : Fin 18) :
    iprop(invs p K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HI, Ho, Hs⟩
  ihave Hc := (inv_at p K (sc_mem c k)) $$ HI
  imod (Rounds.cell_open ER (rd p) (g := ((c : Thread nD τ), osem k)) (Set.mem_univ (K ((c : Thread nD τ), osem k)))) $$ [Hc Ho Hs] with ⟨Hat, Hr⟩
  · isplitl [Hc]; · iexact Hc
    isplitl [Ho] <;> iassumption
  imodintro
  isplitl [Hat] <;> iassumption

theorem open_own :
    iprop(invs p K ∗ (bigSep Finset.univ fun k : Fin 18 => openTok ER ((c : Thread nD τ), osem k)) ∗ Pipeline.ownSems0 osem c)
      ⊢ (|={Set.univ}=> opened c : sProp 𝕄) := by
  have h : iprop(invs p K ∗ bigSep Finset.univ fun k : Fin 18 => iprop(openTok ER ((c : Thread nD τ), osem k) ∗ semVal ((c : Thread nD τ), osem k) 0))
      ⊢ (|={Set.univ}=> opened c : sProp 𝕄) :=
    (bigSep_with_persistent (R := invs p K) fun k _ => open_one p K c k).trans (bigSep_fupd Finset.univ _)
  unfold Pipeline.ownSems0
  iintro ⟨#HI, Ho, Hs⟩
  iapply h
  isplitr; · iexact HI
  iapply both
  isplitl [Ho]; · iexact Ho
  iexact Hs

/-- A cell is closed once its payment, if it has one, has been taken. -/
theorem close_one {s : SemLoc sig} {r : Role} (hs : role s = r) (hm : ((c : Thread nD τ), s) ∈ cells) :
    iprop(invs p K ∗ atPos ER ((c : Thread nD τ), s) (seen (live p c r)) ∅ 0) ⊢ (|={Set.univ}=> semVal ((c : Thread nD τ), s) 0 : sProp 𝕄) := by
  by_cases hl : live p c r = true
  · rw [hl]
    show iprop(invs p K ∗ atPos ER ((c : Thread nD τ), s) (0 + 1) ∅ 0) ⊢ (|={Set.univ}=> semVal ((c : Thread nD τ), s) 0 : sProp 𝕄)
    iintro ⟨HI, Hat⟩
    iapply (close_paid p (K ((c : Thread nD τ), s)) ((c : Thread nD τ), s))
    isplitl [HI]; · iapply (inv_at p K hm) $$ HI
    iexact Hat
  · have hl' : live p c r = false := Bool.not_eq_true _ ▸ hl
    rw [hl']
    show iprop(invs p K ∗ atPos ER ((c : Thread nD τ), s) 0 ∅ 0) ⊢ (|={Set.univ}=> semVal ((c : Thread nD τ), s) 0 : sProp 𝕄)
    iintro ⟨HI, Hat⟩
    iapply (close_unpaid p c (K ((c : Thread nD τ), s)) hs hl')
    isplitl [HI]; · iapply (inv_at p K hm) $$ HI
    iexact Hat

theorem close_each {s : Fin 8 → SemLoc sig} {r : Fin 8 → Role} (hs : ∀ i, role (s i) = r i) (hm : ∀ i, ((c : Thread nD τ), s i) ∈ cells) :
    iprop(invs p K ∗ bigSep Finset.univ fun i => atPos ER ((c : Thread nD τ), s i) (seen (live p c (r i))) ∅ 0)
      ⊢ (|={Set.univ}=> bigSep Finset.univ fun i => semVal ((c : Thread nD τ), s i) 0 : sProp 𝕄) :=
  (bigSep_with_persistent (R := invs p K) fun i _ => close_one p K c (hs i) (hm i)).trans (bigSep_fupd Finset.univ _)

/-! ## Entering the body -/

/-- Block `i` of the receive buffer is lent to the other device, if that will write it; else it is kept. -/
theorem lend (he : p.Even) (i : Fin 8) :
    iprop((some' c (part rbM i) ∗ (atPos ER (rcvCell c i) 0 ∅ 0 ∗ reached ER (rcvCell c i) 0))
        ∗ ((if p.rAct c i then cred (tallyAt (rcvCell c i) () N) else iprop(emp)) ∗ some' c (part oM i)))
      ⊢ (iprop(barBlock p (pr c) i ∗ recvPre p c i) : sProp 𝕄) := by
  unfold barBlock recvPre
  rw [show p.sAct (pr c) i = p.rAct c i by rw [← he.rAct_pr, pr_pr], pr_pr]
  by_cases h : p.rAct c i = true
  · rw [if_pos h, if_pos h, if_pos h]
    iintro ⟨⟨Hb, Hat, Hr⟩, Hc, Ho⟩
    isplitl [Hb Hr]; · isplitl [Hb] <;> iassumption
    isplitr [Ho]; · isplitl [Hat] <;> iassumption
    iexact Ho
  · rw [if_neg h, if_neg h, if_neg h]
    iintro ⟨⟨Hb, Hat, Hr⟩, -, Ho⟩
    isplitr; · iempintro
    isplitr [Ho]; · isplitl [Hat] <;> iassumption
    iexact Ho

theorem lend_all (he : p.Even) :
    iprop(((bigSep Finset.univ fun i => some' c (part rbM i))
        ∗ bigSep Finset.univ fun i => iprop(atPos ER (rcvCell c i) 0 ∅ 0 ∗ reached ER (rcvCell c i) 0))
      ∗ ((bigSep Finset.univ fun i : Fin 8 => if p.rAct c i then cred (tallyAt (rcvCell c i) () N) else iprop(emp))
        ∗ bigSep Finset.univ fun i => some' c (part oM i)))
      ⊢ (iprop(pay p (pr c) .bar ∗ bigSep Finset.univ fun i => recvPre p c i) : sProp 𝕄) :=
  ((BIClass.sep_mono both both).trans both).trans ((bigSep_mono fun i _ => lend p c he i).trans apart)

theorem send_all :
    iprop(((bigSep Finset.univ fun i => dutyTok ER (sndCell c i) 0 ()) ∗ bigSep Finset.univ fun i => dutyTok ER (rcvCell (pr c) i) 0 ())
      ∗ ((bigSep Finset.univ fun i => some' c (part sbM i))
        ∗ bigSep Finset.univ fun i => iprop(atPos ER (sndCell c i) 0 ∅ 0 ∗ reached ER (sndCell c i) 0)))
      ⊢ (iprop((bigSep Finset.univ fun i => sendOwn c i) ∗ bigSep Finset.univ fun i : Fin 8 => atPos ER (sndCell c i) 0 ∅ 0) : sProp 𝕄) := by
  have h (i : Fin 8) : iprop((dutyTok ER (sndCell c i) 0 () ∗ dutyTok ER (rcvCell (pr c) i) 0 ())
      ∗ (some' c (part sbM i) ∗ (atPos ER (sndCell c i) 0 ∅ 0 ∗ reached ER (sndCell c i) 0)))
      ⊢ (iprop(sendOwn c i ∗ atPos ER (sndCell c i) 0 ∅ 0) : sProp 𝕄) := by
    unfold sendOwn
    iintro ⟨⟨Ht, Ht'⟩, Hb, Hat, Hr⟩
    isplitr [Hat]
    · isplitl [Ht]; · iexact Ht
      isplitl [Ht']; · iexact Ht'
      isplitl [Hr] <;> iassumption
    iexact Hat
  exact ((BIClass.sep_mono both both).trans both).trans ((bigSep_mono fun i _ => h i).trans apart)

/-- The opened cells by what they are for. -/
theorem opened_split :
    (opened c : sProp 𝕄) = iprop(((atPos ER (xCell c) 0 ∅ 0 ∗ reached ER (xCell c) 0) ∗ (atPos ER (dCell c) 0 ∅ 0 ∗ reached ER (dCell c) 0))
      ∗ (bigSep Finset.univ fun i => iprop(atPos ER (sndCell c i) 0 ∅ 0 ∗ reached ER (sndCell c i) 0))
      ∗ bigSep Finset.univ fun i => iprop(atPos ER (rcvCell c i) 0 ∅ 0 ∗ reached ER (rcvCell c i) 0)) :=
  own_split (fun s => iprop(atPos ER ((c : Thread nD τ), s) 0 ∅ 0 ∗ reached ER ((c : Thread nD τ), s) 0))

/-- The kernel's four buffers of its own, at some contents. -/
def scratch : sProp 𝕄 := iprop(some' c xvM ∗ some' c dvM ∗ some' c sbM ∗ some' c rbM)

/-- The device's inputs. -/
def inputs : sProp 𝕄 := iprop(owns (c : Thread nD τ) xM fullShare (p.x c) ∗ owns (c : Thread nD τ) dM fullShare (p.d c))

/-- What the device has of the protocol when the body starts. -/
def ready : sProp 𝕄 :=
  iprop((reached ER (barCell (pr c)) 0 ∗ atPos ER (barCell c) 0 ∅ 0) ∗ payToks c ∗ opened c ∗ credits p c)

theorem enter (he : p.Even) :
    iprop(ready p c ∗ inputs p c ∗ scratch c ∗ some' c oM ∗ due c (O₀ p c)) ⊢ bodyPre p c := by
  unfold ready payToks credits inputs scratch bodyPre first
  rw [opened_split]
  iintro ⟨⟨⟨HrB, HaB⟩, ⟨HtB, ⟨HtX, HtD⟩, HtS, HtR⟩, ⟨⟨⟨HaX, HrX⟩, ⟨HaD, HrD⟩⟩, HoS, HoR⟩, HcB, HcR⟩, ⟨Hx, Hd⟩, ⟨Hxv, Hdv, Hsb, Hrb⟩, Ho, HO⟩
  ihave Hsb' := (some'_split c sbM) $$ Hsb
  ihave Hrb' := (some'_split c rbM) $$ Hrb
  ihave Ho' := (some'_split c oM) $$ Ho
  ihave HS := (send_all c) $$ [HtS HtR Hsb' HoS]
  · isplitl [HtS HtR]; · isplitl [HtS] <;> iassumption
    isplitl [Hsb'] <;> iassumption
  icases HS with ⟨HS, HaS⟩
  ihave HR := (lend_all p c he) $$ [Hrb' HoR HcR Ho']
  · isplitl [Hrb' HoR]; · isplitl [Hrb'] <;> iassumption
    isplitl [HcR] <;> iassumption
  icases HR with ⟨Hpay, HR⟩
  isplitr [HS HR HaS]
  · isplitl [HtB HrB HaB HcB]
    · isplitl [HtB]; · iexact HtB
      isplitl [HrB]; · iexact HrB
      isplitl [HaB] <;> iassumption
    isplitl [HtX HrX HaX]
    · isplitl [HtX]; · iexact HtX
      isplitl [HrX] <;> iassumption
    isplitl [HtD HrD HaD]
    · isplitl [HtD]; · iexact HtD
      isplitl [HrD] <;> iassumption
    isplitl [Hx]; · iexact Hx
    isplitl [Hd]; · iexact Hd
    isplitl [Hxv]; · iexact Hxv
    isplitl [Hdv]; · iexact Hdv
    isplitl [Hpay] <;> iassumption
  isplitl [HS]; · iexact HS
  isplitl [HR]; · iexact HR
  iexact HaS

/-! ## Leaving the body -/

/-- The device's counters at zero, the barrier's apart. -/
theorem own_sems :
    (Pipeline.ownSems0 osem c : sProp 𝕄) = iprop((semVal (xCell c) 0 ∗ semVal (dCell c) 0)
      ∗ (bigSep Finset.univ fun i => semVal (sndCell c i) 0) ∗ bigSep Finset.univ fun i => semVal (rcvCell c i) 0) :=
  own_split (fun s => (semVal ((c : Thread nD τ), s) 0 : sProp 𝕄))

theorem leave :
    iprop(invs p K ∗ bodyPost p c)
      ⊢ (|={Set.univ}=> iprop((semVal (barCell c) 0 ∗ Pipeline.ownSems0 osem c) ∗ inputs p c ∗ scratch c
          ∗ owns (c : Thread nD τ) oM fullShare (p.result c) ∗ due c 0) : sProp 𝕄) := by
  have hR : (bigSep Finset.univ fun i => recvPost p c i)
      ⊢ (iprop(((bigSep Finset.univ fun i => atPos ER (rcvCell c i) (seen (live p c (.recv i))) ∅ 0) ∗ bigSep Finset.univ fun i => some' c (part rbM i))
        ∗ bigSep Finset.univ fun i => owns (c : Thread nD τ) (part oM i) fullShare (p.outC c i)) : sProp 𝕄) :=
    apart.trans (sep_mono_left apart)
  have hL : (bigSep Finset.univ fun i => leftPost p c i)
      ⊢ (iprop((bigSep Finset.univ fun i => atPos ER (sndCell c i) (seen (live p c (.send i))) ∅ 0) ∗ bigSep Finset.univ fun i => some' c (part sbM i)) : sProp 𝕄) :=
    apart
  have hB := close_one p K c role_bar (bar_mem c)
  have hX := close_one p K c role_x (x_mem c)
  have hD := close_one p K c role_d (d_mem c)
  have hs := close_each p K c (s := fun i => .dma (sndS i)) role_snd (snd_mem c)
  have hr := close_each p K c (s := fun i => .dma (rcvS i)) role_rcv (rcv_mem c)
  unfold bodyPost third inputs scratch
  rw [own_sems]
  iintro ⟨#HI, ⟨HaB, ⟨HaX, Hxv, Hx⟩, ⟨HaD, Hdv, Hd⟩⟩, HR, HL, HO⟩
  ihave HR' := hR $$ HR
  icases HR' with ⟨⟨HaR, Hrb⟩, Ho⟩
  ihave HL' := hL $$ HL
  icases HL' with ⟨HaS, Hsb⟩
  ihave Hrb' := (some'_join c rbM) $$ Hrb
  ihave Hsb' := (some'_join c sbM) $$ Hsb
  ihave Ho' := (owns_stack c oM (p.outC c)) $$ Ho
  imod hB $$ [HaB] with HsB
  · isplitr; · iexact HI
    iexact HaB
  imod hX $$ [HaX] with HsX
  · isplitr; · iexact HI
    iexact HaX
  imod hD $$ [HaD] with HsD
  · isplitr; · iexact HI
    iexact HaD
  imod hs $$ [HaS] with HsS
  · isplitr; · iexact HI
    iexact HaS
  imod hr $$ [HaR] with HsR
  · isplitr; · iexact HI
    iexact HaR
  imodintro
  isplitl [HsB HsX HsD HsS HsR]
  · isplitl [HsB]; · iexact HsB
    isplitl [HsX HsD]; · isplitl [HsX] <;> iassumption
    isplitl [HsS] <;> iassumption
  isplitl [Hx Hd]; · isplitl [Hx] <;> iassumption
  isplitl [Hxv Hdv Hsb' Hrb']
  · isplitl [Hxv]; · iexact Hxv
    isplitl [Hdv]; · iexact Hdv
    isplitl [Hsb'] <;> iassumption
  isplitl [Ho']; · iexact Ho'
  iexact HO

end Enter

end Cert.Trade

end
-- ==== Proof.Run.lean ====
/-
The run: from any memory in which paired devices exchange equally many rows, every execution of the program ends, the
arguments unchanged, each device's result made of its eight blocks, and every semaphore at zero.
-/
module

public import proofs.«01_k».proof.Proof.Blocks
public import Idealize.ShloMosaic.Lib.Pipeline.Value
public import Idealize.ShloMosaic.Harness.Basic

@[expose] public section

noncomputable section

namespace Cert.Trade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What the devices read: their rows of `x` as launched, and their half of `dest` as the host code cut it. -/
def plan : Plan F := ⟨fun c => V1 m c main_arg0, fun c => V1 m c main_v10⟩

variable (p : Plan F)

/-! ## The kernel's region -/

/-- What the body starts from, beside the staging buffer and what it owes. -/
def before (c : Dev nD) : sProp 𝕄 :=
  iprop(((∃ K, invs p K ∗ ready p c) ∗ levAts L lv) ∗ inputs p c ∗ scratch c ∗ ∃ r, prngReg c r)
/-- What it ends with. -/
def afterwards (c : Dev nD) : sProp 𝕄 :=
  iprop((semVal (barCell c) 0 ∗ Pipeline.ownSems0 osem c) ∗ inputs p c ∗ scratch c ∗ ∃ r, prngReg c r)

def dat (c : Dev nD) : Dat τ (Elt F) Unit ℕ UU ℕ cfg0 c where
  A := fun | 0 => V1 m c main_v11
  after := fun | 0 => fun _ => p.result c
  Φ t := if t.val = 0 then before p c else afterwards p c
  q _ := fullShare
  owed t := if t.val = 0 then O₀ p c else 0

def pdats : (q : Fin 1) → (c : Dev nD) → Dat τ (Elt F) Unit ℕ UU ℕ (Pipeline.pin (pcfgs (F := F)) adm q) c
  | 0 => dat m p

theorem phi_first (c : Dev nD) : (dat m p c).Φ t0_0.castSucc = before p c := rfl
theorem phi_last (c : Dev nD) : (dat m p c).Φ t0_0.succ = afterwards p c := rfl
theorem owed_first (c : Dev nD) : (dat m p c).owed t0_0.castSucc = O₀ p c := rfl
theorem owed_last (c : Dev nD) : (dat m p c).owed t0_0.succ = 0 := rfl

theorem owesAt_of {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (due c O : sProp 𝕄) ⊢ dat.owesAt () t := by
  unfold due Dat.owesAt Pipeline.owesWithin Dat.bound; rw [h, hr]
  iintro ⟨%W, HO⟩; iexists W
  isplitr; · ipureintro; exact fun _ _ => Or.inl trivial
  iexact HO
theorem of_owesAt {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ due c O := by
  unfold due Dat.owesAt Pipeline.owesWithin; rw [h]
  iintro ⟨%W, -, HO⟩; iexists W; iexact HO

/-- The body, as the region runs it. -/
theorem body_at (he : p.Even) (hu : p.Unread) (c : Dev nD) {Q : PUnit → sProp 𝕄} :
    iprop(before p c ∗ due c (O₀ p c) ∗ some' c oM)
      ⊢ iprop((afterwards p c ∗ due c 0 ∗ owns (c : Thread nD τ) oM fullShare (p.result c) -∗ Q ⟨⟩)
      -∗ Runs c (cc0_body dM (Memref.isWhole_whole _) xM (Memref.isWhole_whole _) oM (Memref.isWhole_whole _) xvM (Memref.isWhole_whole _)
        dvM (Memref.isWhole_whole _) sbM (Memref.isWhole_whole _) rbM (Memref.isWhole_whole _) cc0_scratch4 cc0_scratch5 cc0_scratch6 cc0_scratch7) Q) := by
  unfold before afterwards
  iintro ⟨⟨⟨⟨%K, #HI, Hr⟩, #Hlev⟩, Hin, Hsc, Hp⟩, HO, Ho⟩ Hk
  iapply wp_fupd
  iapply (body_run p K c he hu) $$ [Hr Hin Hsc HO Ho]
  · isplitr; · iexact HI
    isplitr; · iexact Hlev
    iapply (enter p c he)
    isplitl [Hr]; · iexact Hr
    isplitl [Hin]; · iexact Hin
    isplitl [Hsc]; · iexact Hsc
    isplitl [Ho] <;> iassumption
  iintro Hpost
  imod (leave p K c) $$ [Hpost] with ⟨Hs, Hin, Hsc, Ho, HO⟩
  · isplitr; · iexact HI
    iexact Hpost
  imodintro
  iapply Hk
  isplitr [HO Ho]
  · isplitl [Hs]; · iexact Hs
    isplitl [Hin]; · iexact Hin
    isplitl [Hsc] <;> iassumption
  isplitl [HO] <;> iassumption

theorem body_ok (he : p.Even) (hu : p.Unread) (c : Dev nD) : BodyObligation (dat m p c) defs₀ 𝒱₀ () Set.univ := fun t => by
  obtain rfl := fin_N0 t
  rw [bigSep_W0, bigSep_W0, phi_first, phi_last]
  iintro ⟨HΦ, HO, ⟨%d, Ho⟩⟩
  ihave HO' := (of_owesAt (dat m p c) _ (O₀ p c) (owed_first m p c)) $$ HO
  ihave Ho' := (owns_some' c oM _) $$ Ho
  iapply (body_at p he hu c) $$ [HΦ HO' Ho']
  · isplitl [HΦ]; · iexact HΦ
    isplitl [HO'] <;> iassumption
  iintro ⟨HΦ, HO, Ho⟩
  isplitl [HΦ]; · iexact HΦ
  isplitl [HO]; · iapply (owesAt_of (dat m p c) t0_0.succ 0 (owed_last m p c) rfl); iexact HO
  iexact Ho

/-! ## The region's record -/

/-- The unscoped buffers when the kernel has run. -/
def Vend (c : Dev nD) : Valuation τ sig (Elt F) := Function.update (V1 m c) main_v11 (p.result c)

/-- The one grid point's block is the whole result array. -/
theorem blk_val (y : ((cfg0.win 0).xblock (cfg0.grid.coords t0_0)).Idx) (a : Fin 2) :
    ((((cfg0.win 0).blk t0_0).view.emb y : Shape.Idx ⟨2, ![1024, 512]⟩) a : ℕ) = y a :=
  Pipeline.Window.rect_emb_val_of_index_zero (cfg0.win 0) t0_0 a rfl y

theorem arr_end (c : Dev nD) : (dat m p c).arrAt 0 cfg0.N = p.result c := by
  refine Dat.arrAt_eq_of_cover (dat m p c) 0 (p.result c) (fun t _ => ?_) (fun i => ⟨t0_0, rfl, ?_⟩)
  · obtain rfl := fin_N0 t
    funext y
    have h : (((cfg0.win 0).blk t0_0).view.emb y : Shape.Idx ⟨2, ![1024, 512]⟩) = y := funext fun a => Fin.ext (blk_val y a)
    exact (congrArg (p.result c) h).symm
  · have h : (((cfg0.win 0).blk t0_0).view.emb i : Shape.Idx ⟨2, ![1024, 512]⟩) = i := funext fun a => Fin.ext (blk_val i a)
    exact Finset.mem_map.mpr ⟨i, Finset.mem_univ _, h⟩

/-- The kernel's operands left in HBM. -/
def operands : Finset (DevRef τ sig) := {Proc.devRef .tc main_arg0, Proc.devRef .tc main_v10}

/-- The unscoped buffers beside the result array. -/
abbrev besides : Finset (DevRef τ sig) :=
  Pipeline.ucRefs τ sig \ Pipeline.arrRefs (τ := τ) (pcfgs (F := F) 0).spec

theorem arrRefs_eq : Pipeline.arrRefs (τ := τ) (pcfgs (F := F) 0).spec = {Proc.devRef .tc main_v11} := by
  unfold Pipeline.arrRefs; rfl
theorem operands_sub : operands ⊆ besides (F := F) := by rw [besides, arrRefs_eq]; decide
theorem operands_ne {b : DevRef τ sig} (h : b ≠ Proc.devRef .tc main_v11) (c : Dev nD) : Vend m p c b = V1 m c b :=
  Function.update_of_ne h _ _

theorem result_at (c : Dev nD) : Vend m p c main_v11 = p.result c := Function.update_self _ _ _
theorem rest_same (c : Dev nD) (b : DevRef τ sig) (hb : b ∈ besides (F := F) \ operands) : Vend m p c b = V1 m c b := by
  refine operands_ne m p (fun h => ?_) c
  have hb' := (Finset.mem_sdiff.mp (Finset.mem_sdiff.mp hb).1).2
  rw [arrRefs_eq, h] at hb'
  exact hb' (Finset.mem_singleton_self _)

theorem owns_whole (c : Dev nD) (b : Ref sig .tc) (v : Buf (Elt F) ((c : Thread nD τ).loc b)) :
    (owns (c : Thread nD τ) (Memref.whole b) fullShare v : sProp 𝕄) = (((c : Thread nD τ).loc b) ↦{fullShare} v) := by
  rw [owns_whole_eq]
  have h₁ : iprop(∃ f, ⌜f = v⌝ ∗ (((c : Thread nD τ).loc b) ↦{fullShare} f)) ⊢ ((((c : Thread nD τ).loc b) ↦{fullShare} v) : sProp 𝕄) := by
    iintro ⟨%f, %h, H⟩; subst h; iexact H
  have h₂ : ((((c : Thread nD τ).loc b) ↦{fullShare} v) : sProp 𝕄) ⊢ iprop(∃ f, ⌜f = v⌝ ∗ (((c : Thread nD τ).loc b) ↦{fullShare} f)) := by
    iintro H; iexists v
    isplitr; · ipureintro; rfl
    iexact H
  exact BI.equiv_iff.mp ⟨h₁, h₂⟩

theorem held_operands (c : Dev nD) (V : Valuation τ sig (Elt F)) (hx : V main_arg0 = p.x c) (hd : V main_v10 = p.d c) :
    (StableHlo.held (c : Thread nD τ) operands V : sProp 𝕄) = inputs p c := by
  have hne : (Proc.devRef .tc main_arg0 : DevRef τ sig) ∉ ({Proc.devRef .tc main_v10} : Finset (DevRef τ sig)) := by decide
  unfold StableHlo.held operands inputs
  rw [bigSep_insert hne, bigSep_singleton, ← hx, ← hd]
  exact congrArg₂ BI.sep (owns_whole c main_arg0 _).symm (owns_whole c main_v10 _).symm

theorem scratch_rest (c : Dev nD) : (Pipeline.scopedRest (pcfgs (F := F) 0).spec c : sProp 𝕄) = scratch c := by
  refine (scopedRest0_eq c).trans ?_
  unfold scratch some'
  simp only [View.set_whole]

theorem opening (c : Dev nD) : iprop(start p c ∗ Pipeline.ownSems0 osem c ∗ levAts L lv)
    ⊢ (|={Set.univ}=> iprop((∃ K, invs p K ∗ ready p c) ∗ levAts L lv) : sProp 𝕄) := by
  unfold start linear ready
  iintro ⟨⟨⟨%K, #HI, #Hr, Hpos, Hopen, Htok⟩, Hcr⟩, Hos, #Hlev⟩
  imod (open_own p K c) $$ [Hopen Hos] with Hop
  · isplitr; · iexact HI
    isplitl [Hopen] <;> iassumption
  imodintro
  isplitl [Hpos Htok Hcr Hop]
  · iexists K
    isplitr; · iexact HI
    isplitl [Hpos]
    · isplitr; · iexact Hr
      iexact Hpos
    isplitl [Htok]; · iexact Htok
    isplitl [Hop] <;> iassumption
  iexact Hlev

theorem cut (c : Dev nD) (t : Fin (cfg0.N + 1)) (g : GSem nD τ sig) (i : Unit) (h : 0 < (dat m p c).owed t g i) :
    i ∈ L g ∧ 0 < lv g i := by
  have h' : 0 < O₀ p c g i := by
    show 0 < O₀ p c g i
    by_cases ht : t.val = 0
    · have e : (dat m p c).owed t = O₀ p c := if_pos ht
      rwa [e] at h
    · have e : (dat m p c).owed t = 0 := if_neg ht
      rw [e] at h; exact absurd h (Nat.lt_irrefl 0)
  rcases O₀_pos p h' with ⟨j, rfl⟩ | rfl
  · exact ⟨by rw [rcvCell, L_tc]; exact Finset.mem_singleton_self _, by unfold lv; rw [show (rcvCell (pr c) j).2 = _ from rfl, role_rcv]; exact Nat.two_pos⟩
  · exact ⟨by rw [barCell, L_tc]; exact Finset.mem_singleton_self _, by unfold lv; rw [show (barCell (pr c)).2 = _ from rfl, role_bar]; exact Nat.one_pos⟩

/-- The devices' closing state: nothing of the protocol but the barrier semaphore back at zero. -/
def over (c : Dev nD) : sProp 𝕄 := semVal (barCell c) 0

theorem entering (c : Dev nD) (hx : V1 m c main_arg0 = p.x c) (hd : V1 m c main_v10 = p.d c) :
    iprop(Pipeline.scopedRest (pcfgs (F := F) 0).spec c ∗ (∃ r, prngReg c r) ∗ StableHlo.held (c : Thread nD τ) operands (V1 m c)
      ∗ ((∃ K, invs p K ∗ ready p c) ∗ levAts L lv)) ⊢ (before p c : sProp 𝕄) := by
  rw [scratch_rest, held_operands p c _ hx hd]
  unfold before
  iintro ⟨Hsc, Hp, Hin, HX⟩
  isplitl [HX]; · iexact HX
  isplitl [Hin]; · iexact Hin
  isplitl [Hsc] <;> iassumption

theorem finishing (c : Dev nD) (hx : V1 m c main_arg0 = p.x c) (hd : V1 m c main_v10 = p.d c) :
    (afterwards p c : sProp 𝕄) ⊢ iprop(Pipeline.scopedRest (pcfgs (F := F) 0).spec c ∗ (∃ r, prngReg c r)
      ∗ StableHlo.held (c : Thread nD τ) operands (Vend m p c) ∗ Pipeline.ownSems0 osem c ∗ over c) := by
  rw [scratch_rest, held_operands p c (Vend m p c) ((operands_ne m p (by decide) c).trans hx) ((operands_ne m p (by decide) c).trans hd)]
  unfold afterwards over
  iintro ⟨⟨Hb, Hos⟩, Hin, Hsc, Hp⟩
  isplitl [Hsc]; · iexact Hsc
  isplitl [Hp]; · iexact Hp
  isplitl [Hin]; · iexact Hin
  isplitl [Hos] <;> iassumption

theorem staged_level (c : Dev nD) (w : Fin 1) (s : Fin ((pcfgs (F := F) 0).spec w).nbuf) :
    lv ((c : Thread nD τ), .dma (((pcfgs (F := F) 0).spec w).sem s)) () = 0 := by
  obtain rfl : w = 0 := Subsingleton.elim w 0
  obtain rfl : s = 0 := Subsingleton.elim (α := Fin 1) s 0
  rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

variable (he : p.Even) (hu : p.Unread) (hx : ∀ c, V1 m c main_arg0 = p.x c) (hd : ∀ c, V1 m c main_v10 = p.d c)

local notation "ℝ𝕊" => RegionSeg (pcfgs (F := F)) adm (pdats m p) () defs₀ 𝒱₀ L lv

set_option backward.isDefEq.respectTransparency.types false in
/-- The kernel, from the rows on the devices to the rows traded. -/
def region : ℝ𝕊 0 :=
  RegionSeg.ofTalk (pcfgs (F := F)) adm (pdats m p) () defs₀ 𝒱₀ L lv 0 osem (by decide : Pipeline.OwnSemFacts spec0 osem)
    operands besides operands_sub kit rfl (fun c => (body_ok m p he hu c).loose)
    (fun _ => 0) (O₀ p) (fun c => (owed_first m p c).trans (zero_add _).symm) (owed_last m p) (fun _ => rfl)
    (fun _ w => by obtain rfl : w = 0 := Subsingleton.elim w 0; rfl)
    (V1 m) (Vend m p) (rest_same m p)
    (start p) over (fun c => iprop((∃ K, invs p K ∗ ready p c) ∗ levAts L lv)) over (opening p)
    (fun c => entering m p c (hx c) (hd c)) (fun c => finishing m p c (hx c) (hd c))
    (fun c => by iintro H; imodintro; iexact H)
    (fun _ => 0)
    ⟨fun c w s => by rw [L_tc]; exact Finset.mem_singleton_self _, fun c w s => le_of_eq (staged_level (F := F) c w s), fun c t g i h => cut m p c t g i h⟩
    (fun _ => iprop(emp))
    (fun c w => by obtain rfl : w = 0 := Subsingleton.elim w 0; rfl)
    (fun c w => by obtain rfl : w = 0 := Subsingleton.elim w 0; exact (arr_end m p c).trans (result_at m p c).symm)

theorem result_mem : Pipeline.arrRefs (τ := τ) (pcfgs (F := F) 0).spec ⊆ Pipeline.ucRefs τ sig := by rw [arrRefs_eq]; decide

theorem region_pre (c : Dev nD) :
    iprop(StableHlo.held (c : Thread nD τ) (Pipeline.ucRefs τ sig) (V1 m c) ∗ R p c) ⊢ (region m p he hu hx hd).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) besides (V1 m c) ∗ emp) ∗ start p c ∗ ∃ Wd, owes (c : Thread nD τ) (0 + O₀ p c) Wd)
  rw [zero_add, StableHlo.held_sub_split (c.tc : Thread nD τ) (result_mem (F := F)) (V1 m c)]
  unfold R
  iintro ⟨⟨Ha, Hb⟩, Hs, Hp, HO⟩
  isplitl [Ha]; · iexact Ha
  isplitl [Hp]; · iexact Hp
  isplitl [Hb]
  · isplitl [Hb]; · iexact Hb
    iempintro
  isplitl [Hs] <;> iassumption

theorem region_post (c : Dev nD) : (region m p he hu hx hd).post c
    ⊢ iprop(StableHlo.held (c : Thread nD τ) (Pipeline.ucRefs τ sig) (Vend m p c) ∗ over c
      ∗ ∃ W, owes (c : Thread nD τ) (0 : CellTallies nD τ sig Unit) W) := by
  show iprop(StableHlo.held (c.tc : Thread nD τ) (Pipeline.arrRefs (τ := τ) (pcfgs (F := F) 0).spec) (Vend m p c) ∗ (∃ r, prngReg c r)
    ∗ (StableHlo.held (c.tc : Thread nD τ) besides (Vend m p c) ∗ emp) ∗ over c ∗ ∃ Wd, owes (c : Thread nD τ) (0 : CellTallies nD τ sig Unit) Wd) ⊢ _
  rw [StableHlo.held_sub_split (c.tc : Thread nD τ) (result_mem (F := F)) (Vend m p c)]
  iintro ⟨Ha, -, ⟨Hb, -⟩, Hs, HO⟩
  isplitl [Ha Hb]
  · isplitl [Ha] <;> iassumption
  isplitl [Hs] <;> iassumption

/-! ## The launch -/

/-- What rides beside the buffers before and after the kernel. -/
def E : Fin 2 → Dev nD → sProp 𝕄
  | 0 => R p
  | 1 => fun c => iprop(over c ∗ ∃ W, owes (c : Thread nD τ) (0 : CellTallies nD τ sig Unit) W)

include he hu hx hd in
set_option backward.isDefEq.respectTransparency.types false in
/-- Every execution ends, with the arguments as launched, each device's result its eight blocks, every semaphore at zero. -/
theorem run_main (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v11) = p.result c) ∧ r.2.sem = fun _ => 0) := by
  refine Pipeline.θ_run_regions_kit_dev_sems (pcfgs (F := F)) adm (pdats m p) () cellOf_inj EP defs₀ 𝒱₀ L lv m ρ main
    (segs m 𝒱₀ L lv (E p) () (pdats m p) (region m p he hu hx hd))
    (fun c Q => by
      rewrite [main_chain c, Seg.run_eq_chain,
        show (segs m 𝒱₀ L lv (E p) () (pdats m p) (region m p he hu hx hd) c).map Seg.prog
          = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide) (O₀ p) L_of_ne G u₀ ?_
    (T₀ := fun c => iprop(StableHlo.held (c : Thread nD τ) (Pipeline.ucRefs τ sig) (V0 m c) ∗ R p c))
    (Tₙ := fun c => iprop(StableHlo.held (c : Thread nD τ) (Pipeline.ucRefs τ sig) (Vend m p c) ∗ over c))
    (hch := fun c => ⟨.rfl, region_pre m p he hu hx hd c, (region_post m p he hu hx hd c).trans ?_⟩)
    (hinit := ?_)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v11) = p.result c) ∧ s.sem (barCell c) = 0)
    (hfin := fun c s' => ?_)
    (hQ := fun s h hs => ⟨fun c => (h c).1, sem_eq_zero hs fun c sm hsm => by obtain rfl := unscoped_eq sm hsm; exact (h c).2⟩)
  · unfold G
    rw [bigSep_onFirst]
    unfold u₀
    iintro Hu
    ihave H := (ownU_pair _ _) $$ Hu
    icases H with ⟨HP, HX⟩
    imodintro
    isplitl [HP]
    · iexact HP
    iexact HX
  · iintro ⟨Hh, Ho, HO⟩
    isplitl [Hh Ho]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ p c) ∅ ∗ Pipeline.launchCred (O₀ p) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ p c) ∅
              ∗ Pipeline.launchCred (O₀ p) c ∗ prngReg c (ρ c) ∗ G c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    have hjoin : iprop((bigSep Finset.univ fun c : Dev nD => StableHlo.held (c : Thread nD τ) (Pipeline.ucRefs τ sig) (V0 m c))
          ∗ bigSep Finset.univ (R p))
        ⊢ (bigSep Finset.univ fun c : Dev nD => iprop(StableHlo.held (c : Thread nD τ) (Pipeline.ucRefs τ sig) (V0 m c) ∗ R p c) : sProp 𝕄) :=
      Entails.of_eq (by rw [bigSep_sep'])
    iintro ⟨H, Hla⟩
    ihave H' := hsplit $$ H
    icases H' with ⟨Hh, Hr⟩
    imod (deal p he ρ) $$ [Hr Hla] with HE
    · isplitl [Hr] <;> iassumption
    imodintro
    iapply hjoin
    isplitl [Hh] <;> iassumption
  · unfold StableHlo.held over
    iintro ⟨⟨Hh, Hs⟩, HSI⟩
    icombine HSI Hs gives %hb
    ihave Hr := (pointsTo_read_all (Pipeline.ucRefs τ sig) (fun b => ((c : Thread nD τ).1, b)) (Vend m p c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans
          ((operands_ne m p (by decide) c).trans (V1_of m c main_arg0 (by decide))),
        (h (Proc.devRef .tc main_arg1) (Finset.mem_filter.mpr ⟨StableHlo.devRef_mem_tcRefs main_arg1, by decide⟩)).trans
          ((operands_ne m p (by decide) c).trans (V1_of m c main_arg1 (by decide))),
        (h (Proc.devRef .tc main_v11) (Finset.mem_filter.mpr ⟨StableHlo.devRef_mem_tcRefs main_v11, by decide⟩)).trans (result_at m p c)⟩,
        by simpa using hb⟩
    · iexact HSI

end Cert.Trade

end
-- ==== Proof.Frames.lean ====
/-
The frames of the kernel, from the run of its idealized text over any float values: under the precondition it terminates, its arguments are
unchanged, and every semaphore counter is zero again.
-/
module

public import proofs.«01_k».proof.Kernel
public import proofs.«01_k».proof.Proof.Gen.Kernel
public import proofs.«01_k».proof.Proof.Half
public import proofs.«01_k».proof.Proof.Run

@[expose] public section

noncomputable section

namespace Cert.Trade

open Idealize.ShloMosaic Idealize.ShloMosaic.TcCoe Idealize.SL.Sem
open Cert.KernelIdeal Cert.KernelIdeal.Gen

variable {F : FTy → Type} [FloatOps F]

/-- The run over what the memory holds, where the precondition holds. -/
theorem run_trades {q : ℕ} (m : (ℓ : Loc nD τ sig) → Buf (Elt F) ℓ) (ρ : Dev nD → PrngReg)
    (h : ∀ c : Dev nD, Trades q (m ((c : Thread nD τ).loc main_arg1))) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v11) = (plan m).result c) ∧ r.2.sem = fun _ => 0) :=
  run_main m (plan m) (even_of (plan m) _ (half_read m) h) (unread (plan m)) (fun _ => rfl) (fun _ => rfl) ρ

/-- The idealized kernel's frame, over any float values. -/
theorem frame_any {q : ℕ} {lo hi : BitVec 32} (hlo : lo.toInt = 128 * q - 128) (hhi : hi.toInt = 128 * q)
    (m : (ℓ : Loc nD τ sig) → Buf (Elt F) ℓ) (ρ : Dev nD → PrngReg)
    (h : ∀ c : Dev nD, tradesBit lo hi (m ((c : Thread nD τ).loc main_arg1)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1, (h.1 c).2.1⟩, h.2⟩) (run_trades m ρ fun c => trades_of hlo hhi (h c))

/-- At the machine's own floats the idealized kernel's bodies are the kernel's own. -/
theorem same_bodies : Cert.Kernel.defs₀ (F := Bits) = Cert.KernelIdeal.defs₀ (F := Bits) := by
  funext p ℓ a
  cases p with
  | tc =>
    match ℓ, a with
    | ⟨0, _⟩, (t, s) => rfl
    | ⟨k + 1, h⟩, _ => exact absurd h (by omega)
  | scScalar _ => rfl
  | scVector _ _ => rfl

theorem same_defs : Cert.Kernel.defs (F := Bits) = Cert.KernelIdeal.defs (F := Bits) :=
  congrArg (Pipeline.defs Cert.KernelIdeal.pcfgs) same_bodies

/-- The kernel's frame at the machine's own floats: its text is the idealized one's. -/
theorem frame_bits {q : ℕ} {lo hi : BitVec 32} (hlo : lo.toInt = 128 * q - 128) (hhi : hi.toInt = 128 * q)
    (m : (ℓ : Loc Cert.Kernel.nD Cert.Kernel.τ Cert.Kernel.sig) → Buf (Elt Bits) ℓ) (ρ : Dev Cert.Kernel.nD → PrngReg)
    (h : ∀ c : Dev Cert.Kernel.nD, tradesBit lo hi (m ((c.tc : Thread Cert.Kernel.nD Cert.Kernel.τ).loc Cert.Kernel.main_arg1)) = fun _ => 1#1) :
    θ_run (Cert.Kernel.defs (F := Bits)) (onTc (τ := Cert.Kernel.τ) (Cert.Kernel.main (F := Bits))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  have t := frame_any (F := Bits) hlo hhi m ρ h
  rw [← same_defs] at t
  exact t

end Cert.Trade

end
-- ==== Proof.Sorted.lean ====
/-
The run of the reference: one straight line of host operations, which sorts the rows' numbers by `dest` and reads the rows in that order.
-/
module

public import proofs.«01_k».proof.Defs
public import proofs.«01_k».proof.Proof.Gen.ReferenceIdeal
public import Idealize.ShloMosaic.Lib.StableHlo.Run

@[expose] public section

noncomputable section

namespace Cert.Sorted

open Idealize.ShloMosaic Idealize.ShloMosaic.TcCoe Idealize.ShloMosaic.StableHlo Idealize.SL.Sem
open Cert.ReferenceIdeal Cert.ReferenceIdeal.Gen

/-- The operations, in order. -/
abbrev ops : List (HloOp τ sig (Elt Ideal)) :=
  [ nullary main_call0_v0 (iotaInDim S2048 32 0),
    binary main_arg1 main_call0_v0 main_call0_v1_0 (fun x y => (Host.sort2 S2048 0 comparator_i32_i32_d0 x y).1),
    binary main_arg1 main_call0_v0 main_v0 (fun x y => (Host.sort2 S2048 0 comparator_i32_i32_d0 x y).2),
    nullary main_c (constantI S_ 32 0#32),
    unary main_c main_v1 (broadcastInDim S2048 ![] bcast_S_S2048),
    binary main_v0 main_v1 main_v2 (cmpi .slt),
    nullary main_c_0 (constantI S_ 32 2048#32),
    unary main_c_0 main_v3 (broadcastInDim S2048 ![] bcast_S_S2048),
    binary main_v0 main_v3 main_v4 addi,
    ternary main_v2 main_v4 main_v0 main_v5 select,
    unary main_v5 main_v6 (broadcastInDim S2048x1 ![0] bcast_S2048_S2048x1_0),
    binary main_arg0 main_v6 main_v7 (fun x i => Host.gather gather_S2048x512_S2048x1_S2048x512_1_0_n_n_0_1_1512 x i),
    unary main_v7 main_v8 (truncf (F := Ideal) (s := S2048x512) (φ := .f32) .bf16 · bitsLt_bf16_f32) ]

theorem main_eq (c : Dev nD) : main (F := Ideal) c = seq ops := rfl

/-- The order: the rows' numbers, sorted by `dest`, equal ones as they stand. -/
def order (D : IVec S2048 32) : IVec S2048 32 := (Host.sort2 S2048 0 comparator_i32_i32_d0 D (iotaInDim S2048 32 0)).2

/-- The order as it is read: a negative number counted from the end. -/
def places (D : IVec S2048 32) : IVec S2048x1 32 :=
  broadcastInDim S2048x1 ![0] bcast_S2048_S2048x1_0
    (select (cmpi .slt (order D) (broadcastInDim S2048 ![] bcast_S_S2048 (constantI S_ 32 0#32)))
      (addi (order D) (broadcastInDim S2048 ![] bcast_S_S2048 (constantI S_ 32 2048#32))) (order D))

/-- The reference's result. -/
def sorted (X : FVec Ideal S2048x512 .f32) (D : IVec S2048 32) : FVec Ideal S2048x512 .bf16 :=
  truncf (F := Ideal) (s := S2048x512) (φ := .f32) .bf16 (Host.gather gather_S2048x512_S2048x1_S2048x512_1_0_n_n_0_1_1512 X (places D)) bitsLt_bf16_f32

theorem out_eq (V : Valuation τ sig (Elt Ideal)) : after ops V (main_v8 : DevRef τ sig) = sorted (V main_arg0) (V main_arg1) := by
  after_results
  rfl
theorem arg0_eq (V : Valuation τ sig (Elt Ideal)) : after ops V (main_arg0 : DevRef τ sig) = V (main_arg0 : DevRef τ sig) := by
  after_results
theorem arg1_eq (V : Valuation τ sig (Elt Ideal)) : after ops V (main_arg1 : DevRef τ sig) = V (main_arg1 : DevRef τ sig) := by
  after_results

theorem no_scoped : (Finset.univ.filter fun b : Ref sig .tc => b.isScoped) = ∅ := by decide
theorem no_scoped_sems : (Finset.univ.filter fun s : SemLoc sig => s.isScoped .tc) = ∅ := by decide

theorem ops_sub : (ops : List (HloOp τ sig (Elt Ideal))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., unary_bufs_sub ..⟩

/-- The reference terminates, with the sorted rows, its arguments as they were. -/
theorem run_main (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v8)
          = sorted (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v8).trans (out_eq _), (h c main_arg0).trans (arg0_eq _), (h c main_arg1).trans (arg1_eq _)⟩)
    (run_seq no_scoped no_scoped_sems defs main (fun _ => ops) main_eq (fun _ => ops_sub) m ρ)

end Cert.Sorted

end
-- ==== Proof.Picks.lean ====
/-
The one-hot products over the reals: a row of the product with a mask of one mark is the row that the mark picks.
-/
module

public import proofs.«01_k».proof.Proof.Pairs
public import Idealize.ShloMosaic.Lib.MatmulPlain

@[expose] public section

noncomputable section

namespace Cert.Trade

open Idealize.ShloMosaic Idealize.SL.Sem
open Cert.KernelIdeal Cert.KernelIdeal.Gen

/-- A mark as a real: 1 where two words are equal, else 0. -/
def mark (u w : BitVec 32) : EReal := if u = w then 1 else 0

theorem mark_eq (u w : BitVec 32) : (FloatOps.sitofp (F := Ideal) .f32 ((IntOp.cmpi .eq u w).setWidth 32) : EReal) = mark u w := by
  show ((((IntOp.cmpi .eq u w).setWidth 32).toInt : ℝ) : EReal) = _
  unfold mark
  by_cases h : u = w
  · rw [if_pos h, show IntOp.cmpi .eq u w = 1#1 from by show BitVec.ofBool (u == w) = _; simp [h]]
    simp
  · rw [if_neg h, show IntOp.cmpi .eq u w = 0#1 from by show BitVec.ofBool (u == w) = _; rw [beq_eq_false_iff_ne.mpr h]; rfl]
    show (((0#32 : BitVec 32).toInt : ℝ) : EReal) = 0
    simp

/-- A sum over marks of which one stands is the term that it picks. -/
theorem sum_mark {n : ℕ} (u : BitVec 32) (f : Fin n → BitVec 32) (y : Fin n → EReal) (k : Fin n) (hk : u = f k)
    (hu : ∀ k', u = f k' → k' = k) : ∑ k', mark u (f k') * y k' = y k := by
  rw [Finset.sum_eq_single k]
  · unfold mark; rw [if_pos hk, one_mul]
  · intro k' _ h
    unfold mark; rw [if_neg (fun e => h (hu k' e)), zero_mul]
  · exact fun h => absurd (Finset.mem_univ k) h

/-! ## What is sent -/

/-- Block of what is sent, over the number of its first row. -/
def sentAt (o : BitVec 32) (g : IVec S1x1024 32) (x : Vec Ideal S1024x512 .f32) : FVec Ideal S128x512 .bf16 :=
  shapeCast S128x512 (truncf .bf16 (matmul (F := Ideal) (φ₂ := .f32) dot_S128x1024_S1024x512_S128x512_1_0_0_1_n_n none
    (sitofp .f32 (extui 32 (cmpi .eq (addi (iota .tc S128x1024 32 [0] iota_S128x1024_d0_w32) (broadcast S128x1024 o))
      (broadcastTo S128x1024 g broadcasts_S1x1024_S128x1024)) natLt_1_32))
    x (constant S128x512 .f32 0x00000000#32)) bitsLt_bf16_f32) shapeCasts_S128x512_S128x512

theorem sentBlock_at (g : IVec S1x1024 32) (x : Vec Ideal S1024x512 .f32) (i : Fin 8) :
    sentBlock (F := Ideal) g x i = sentAt (BitVec.ofNat 32 (128 * i.val)) g x := by
  fin_cases i <;> rfl

/-- Each row sent is a sum of the device's rows, the marked ones. -/
theorem sent_apply (g : IVec S1x1024 32) (x : Vec Ideal S1024x512 .f32) (i : Fin 8) (a : Fin 128) (b : Fin 512) :
    (sentBlock (F := Ideal) g x i (ix2 a b) : EReal)
      = ∑ k : Fin 1024, mark (BitVec.ofNat 32 (128 * i.val + a.val)) (g (ix2 0 k)) * x (ix2 k b) := by
  rw [sentBlock_at]
  unfold sentAt
  rw [shapeCast_self]
  refine Eq.trans (α := EReal) (Ideal.matmul_plain_apply (M := 128) (K := 1024) (N := 512) (φ₁ := .f32) (φ₂ := .f32) none _ _ _ a b) ?_
  show Ideal.ofBits .f32 0x00000000#32 + _ = _
  rw [Ideal.ofBits_zero_f32, zero_add]
  refine Finset.sum_congr rfl fun k _ => congrArg (· * (x (ix2 k b) : EReal)) ?_
  show (FloatOps.sitofp (F := Ideal) .f32 ((IntOp.cmpi .eq (iota .tc S128x1024 32 [0] iota_S128x1024_d0_w32 (ix2 a k) + BitVec.ofNat 32 (128 * i.val))
    (broadcastTo S128x1024 g broadcasts_S1x1024_S128x1024 (ix2 a k))).setWidth 32) : EReal) = _
  rw [broadcastTo_apply _ _ _ (ix2 0 k) ?_, mark_eq, iota_single_apply .tc S128x1024 32 0 iota_S128x1024_d0_w32 (ix2 a k)]
  · show mark (BitVec.ofNat 32 a.val + _) _ = _
    rw [add_small, Nat.add_comm]
  · intro k
    match k with
    | ⟨0, _⟩ => rfl
    | ⟨1, _⟩ => rfl

/-! ## What is kept -/

/-- Each row kept is a sum of the device's rows, the marked ones. -/
theorem kept_apply (s : IVec S1x1024 32) (x : Vec Ideal S1024x512 .f32) (r : Fin 1024) (b : Fin 512) :
    (kept (F := Ideal) s x (ix2 r b) : EReal) = ∑ k : Fin 1024, mark (BitVec.ofNat 32 r.val) (s (ix2 0 k)) * x (ix2 k b) := by
  refine Eq.trans (α := EReal) (Ideal.matmul_plain_apply (M := 1024) (K := 1024) (N := 512) (φ₁ := .bf16) (φ₂ := .bf16) none _ _ _ r b) ?_
  show Ideal.ofBits .f32 0x00000000#32 + _ = _
  rw [Ideal.ofBits_zero_f32, zero_add]
  refine Finset.sum_congr rfl fun k _ => congrArg (· * (x (ix2 k b) : EReal)) ?_
  show (FloatOps.sitofp (F := Ideal) .f32 ((IntOp.cmpi .eq (iota .tc S1024x1024 32 [0] iota_S1024x1024_d0_w32 (ix2 r k))
    (broadcastTo S1024x1024 s broadcasts_S1x1024_S1024x1024 (ix2 r k))).setWidth 32) : EReal) = _
  rw [broadcastTo_apply _ _ _ (ix2 0 k) ?_, mark_eq, iota_single_apply .tc S1024x1024 32 0 iota_S1024x1024_d0_w32 (ix2 r k)]
  · rfl
  · intro k
    match k with
    | ⟨0, _⟩ => rfl
    | ⟨1, _⟩ => rfl

/-! ## Where the rows go -/

variable {F : FTy → Type} [FloatOps F] (c : Dev nD) (d : IVec S1x1024 32)

theorem leaves_bit (k : Fin 1024) : leaves (F := F) c d (ix2 0 k) = BitVec.ofBool (decide (Leaves c d k.val)) := by
  by_cases h : Leaves c d k.val
  · rw [decide_eq_true h]; exact (leaves_iff c d k).mpr h
  · rw [decide_eq_false h]
    have := mt (leaves_iff (F := F) c d k).mp h
    generalize leaves (F := F) c d (ix2 0 k) = b at this
    revert this; revert b; decide

/-- Where row `k` goes, if it leaves: past those that leave before it. -/
theorem goes_apply (k : Fin 1024) : goesTo (F := F) c d (ix2 0 k)
    = if Leaves c d k.val then BitVec.ofNat 32 (ahead c d k.val + outAt c (ahead c d 1024)) else 3000#32 := by
  show Scalar.select (leaves (F := F) c d (ix2 0 k)) (countW (F := F) c d (ix2 0 k) - 1#32
    + outStart c (leaveW (F := F) c d)) 3000#32 = _
  rw [leaves_bit, countW_apply, leaveW_eq, outStart_eq c (ahead_le c d 1024)]
  by_cases h : Leaves c d k.val
  · rw [if_pos h, decide_eq_true h]
    have e : ahead c d (k.val + 1) = ahead c d k.val + 1 := by unfold ahead; rw [Nat.count_succ, if_pos h]
    have := ahead_le c d k.val
    show BitVec.ofNat 32 _ - BitVec.ofNat 32 1 + _ = _
    rw [e, sub_small (by omega) (by omega), add_small]; rfl
  · rw [if_neg h, decide_eq_false h]; rfl

/-- Where row `k` goes, if it stays: past those that stay before it, after the rows that come first. -/
theorem stays_apply (k : Fin 1024) : staysAt (F := F) c d (ix2 0 k)
    = if Leaves c d k.val then 3000#32 else BitVec.ofNat 32 (k.val - ahead c d k.val + (if lower c = true then 0 else ahead c d 1024)) := by
  show Scalar.select (leaves (F := F) c d (ix2 0 k)) 3000#32 (rowNo (ix2 0 k) - countW (F := F) c d (ix2 0 k)
    + Scalar.select (Scalar.cmpi .eq (meW c) 0#32) 0#32 (leaveW (F := F) c d)) = _
  rw [leaves_bit, countW_apply, leaveW_eq, rowNo_apply, meBit]
  by_cases h : Leaves c d k.val
  · rw [if_pos h, decide_eq_true h]; rfl
  · rw [if_neg h, decide_eq_false h]
    have e : ahead c d (k.val + 1) = ahead c d k.val := by unfold ahead; rw [Nat.count_succ, if_neg h]; rfl
    have := ahead_le c d k.val
    rw [e, sub_small (by omega) (by omega)]
    cases lower c
    · exact add_small _ _
    · exact add_small _ 0

end Cert.Trade

end
-- ==== Proof.Rows.lean ====
/-
The result's rows: each row of a device's result is the row of the whole array whose place in the order is the result's.
-/
module

public import proofs.«01_k».proof.Proof.Picks
public import proofs.«01_k».proof.Proof.Blocks

@[expose] public section

noncomputable section

namespace Cert.Trade

open Idealize.ShloMosaic Idealize.SL.Sem
open Cert.KernelIdeal Cert.KernelIdeal.Gen

/-! ## Two facts of counting -/

theorem count_both (P : ℕ → Prop) [DecidablePred P] (k : ℕ) : Nat.count P k + Nat.count (fun j => ¬ P j) k = k := by
  induction k with
  | zero => rfl
  | succ k ih =>
    rw [Nat.count_succ, Nat.count_succ]
    by_cases h : P k
    · rw [if_pos h, if_neg (not_not.mpr h)]; omega
    · rw [if_neg h, if_pos h]; omega

theorem word_inj {a b : ℕ} (ha : a < 4000) (hb : b < 4000) (h : BitVec.ofNat 32 a = BitVec.ofNat 32 b) : a = b := by
  have := congrArg BitVec.toNat h
  simp only [BitVec.toNat_ofNat] at this
  omega

/-! ## One row -/

section Row

variable (c : Dev nD) (d : IVec S1x1024 32) (x : Vec Ideal S1024x512 .f32)

/-- A row that leaves is the row sent at its place. -/
theorem sent_row {k : Fin 1024} (hk : Leaves c d k.val) {i : Fin 8} {a : Fin 128} (b : Fin 512)
    (h : ahead c d k.val + outAt c (ahead c d 1024) = 128 * i.val + a.val) :
    sentBlock (F := Ideal) (goesTo (F := Ideal) c d) x i (ix2 a b) = x (ix2 k b) := by
  have hi := i.isLt
  have ha := a.isLt
  have hout : outAt c (ahead c d 1024) ≤ 1024 := by unfold outAt; split <;> omega
  refine (sent_apply _ x i a b).trans (sum_mark _ (fun k => goesTo (F := Ideal) c d (ix2 0 k)) (fun k => x (ix2 k b)) k ?_ fun k' e => ?_)
  · show _ = goesTo (F := Ideal) c d (ix2 0 k)
    rw [goes_apply, if_pos hk, h]
  · replace e : _ = goesTo (F := Ideal) c d (ix2 0 k') := e
    have h' := ahead_le c d k'.val
    have := k'.isLt
    rw [goes_apply] at e
    by_cases hl : Leaves c d k'.val
    · rw [if_pos hl] at e
      have := word_inj (by omega) (by omega) e
      exact Fin.ext (Nat.count_injective hl hk (show ahead c d k'.val = ahead c d k.val by omega))
    · rw [if_neg hl] at e
      exact absurd (word_inj (b := 3000) (by omega) (by omega) e) (by omega)

/-- A row that stays is the row kept at its place. -/
theorem kept_row {k : Fin 1024} (hk : ¬ Leaves c d k.val) {r : Fin 1024} (b : Fin 512)
    (h : k.val - ahead c d k.val + (if lower c = true then 0 else ahead c d 1024) = r.val) :
    kept (F := Ideal) (staysAt (F := Ideal) c d) x (ix2 r b) = x (ix2 k b) := by
  have hr := r.isLt
  have hall := ahead_le c d 1024
  refine (kept_apply _ x r b).trans (sum_mark _ (fun k => staysAt (F := Ideal) c d (ix2 0 k)) (fun k => x (ix2 k b)) k ?_ fun k' e => ?_)
  · show _ = staysAt (F := Ideal) c d (ix2 0 k)
    rw [stays_apply, if_neg hk, h]
  · replace e : _ = staysAt (F := Ideal) c d (ix2 0 k') := e
    have hk' := k'.isLt
    rw [stays_apply] at e
    by_cases hl : Leaves c d k'.val
    · rw [if_pos hl] at e
      exact absurd (word_inj (b := 3000) (by omega) (by omega) e) (by omega)
    · rw [if_neg hl] at e
      have e := word_inj (by omega) (by split <;> omega) e
      have b1 := count_both (Leaves c d) k'.val
      have b2 := count_both (Leaves c d) k.val
      unfold ahead at e h
      exact Fin.ext (Nat.count_injective (p := fun j => ¬ Leaves c d j) hl hk (by omega))

end Row

/-! ## The order's places -/

/-- Where row `j` stands once the rows are in order: past the rows of its own destination that come before it. -/
def place (D : IVec D2048 32) (j : ℕ) : ℕ := if One D j then 1024 + Nat.count (One D) j else j - Nat.count (One D) j

section Result

variable {q : ℕ} (p : Plan Ideal) (X : FVec Ideal ⟨2, ![2048, 512]⟩ .f32) (D : IVec D2048 32)

/-- Row `j` is in the device's half, and stays; the device's result has it at its place. -/
theorem kept_place (hd : ∀ c, Half c (p.d c) D) (hD : Trades q D) (hx : ∀ (c : Dev nD) (k : Fin 1024) (b : Fin 512), p.x c (ix2 k b) = X (ix2 ⟨halfAt c + k.val, halfAt_le c k⟩ b))
    (c : Dev nD) (r : Fin 1024) (b : Fin 512) (j : Fin 2048) (hj : place D j.val = halfAt c + r.val)
    (hm : ¬ (inAt c (Nat.count (One D) 1024) ≤ r.val ∧ r.val < inAt c (Nat.count (One D) 1024) + Nat.count (One D) 1024)) :
    kept (F := Ideal) (staysAt (F := Ideal) c (p.d c)) (p.x c) (ix2 r b) = X (ix2 j b) := by
  have mono : Monotone (Nat.count (One D)) := Nat.count_monotone _
  have hn := Nat.count_le (p := One D) (n := 1024)
  have hr := r.isLt
  have hjl := j.isLt
  have both := count_both (One D)
  have mono' : Monotone (Nat.count fun j => ¬ One D j) := Nat.count_monotone _
  have c0 := both j.val
  have c1 := both (j.val + 1)
  have c2 := both 1024
  have c3 := both 2048
  have tot := hD.total
  have step : Nat.count (One D) (j.val + 1) = _ := Nat.count_succ _ _
  have step' : Nat.count (fun j => ¬ One D j) (j.val + 1) = _ := Nat.count_succ _ _
  have last := mono' (show j.val + 1 ≤ 2048 by omega)
  unfold place halfAt at hj
  unfold inAt at hm
  cases hl : lower c with
  | true =>
    rw [if_pos hl] at hj hm
    by_cases ho : One D j.val
    · rw [if_pos ho] at hj; omega
    · rw [if_neg ho] at hj step
      rw [if_pos ho] at step'
      have hlt : j.val < 1024 := by
        by_contra hge
        have := mono' (show 1024 ≤ j.val by omega)
        omega
      have hs : ¬ Leaves c (p.d c) j.val := fun h => ho ((leaves_lower (hd c) hD hl hlt).mp h)
      have ha := ahead_lower (hd c) hD hl hlt.le
      rw [kept_row c (p.d c) (p.x c) (k := ⟨j.val, hlt⟩) hs b (by rw [if_pos hl]; show j.val - ahead c (p.d c) j.val + 0 = _; omega), hx]
      refine congrArg (fun k => X (ix2 k b)) (Fin.ext ?_)
      show halfAt c + j.val = j.val
      unfold halfAt; rw [if_pos hl]; exact Nat.zero_add _
  | false =>
    have hl' : ¬ lower c = true := by rw [hl]; decide
    rw [if_neg hl'] at hj hm
    by_cases ho : One D j.val
    · rw [if_pos ho] at hj step
      have hge : 1024 ≤ j.val := by
        by_contra hlt
        have := mono (show j.val + 1 ≤ 1024 by omega)
        omega
      have hlt : j.val - 1024 < 1024 := by omega
      have ej : 1024 + (j.val - 1024) = j.val := by omega
      have hs : ¬ Leaves c (p.d c) (j.val - 1024) := fun h => (leaves_upper (hd c) hD hl hlt).mp h (by rw [ej]; exact ho)
      have ha := ahead_upper (hd c) hD hl hlt.le
      rw [ej] at ha
      have hall := ahead_all (hd c) hD
      have hle := ahead_le c (p.d c) (j.val - 1024)
      rw [kept_row c (p.d c) (p.x c) (k := ⟨j.val - 1024, hlt⟩) hs b
        (by rw [if_neg hl', hall]; show j.val - 1024 - ahead c (p.d c) (j.val - 1024) + _ = _; omega), hx]
      refine congrArg (fun k => X (ix2 k b)) (Fin.ext ?_)
      show halfAt c + (j.val - 1024) = j.val
      unfold halfAt; rw [if_neg hl']; exact ej
    · rw [if_neg ho] at hj
      rw [if_pos ho] at step'
      omega

/-- Row `j` is in the other device's half, and leaves it; that device sends it to its place. -/
theorem sent_place (hd : ∀ c, Half c (p.d c) D) (hD : Trades q D) (hx : ∀ (c : Dev nD) (k : Fin 1024) (b : Fin 512), p.x c (ix2 k b) = X (ix2 ⟨halfAt c + k.val, halfAt_le c k⟩ b))
    (c : Dev nD) (i : Fin 8) (a : Fin 128) (b : Fin 512) (j : Fin 2048) (hj : place D j.val = halfAt c + (128 * i.val + a.val))
    (hm : inAt c (Nat.count (One D) 1024) ≤ 128 * i.val + a.val ∧ 128 * i.val + a.val < inAt c (Nat.count (One D) 1024) + Nat.count (One D) 1024) :
    p.sent (pr c) i (ix2 a b) = X (ix2 j b) := by
  have mono : Monotone (Nat.count (One D)) := Nat.count_monotone _
  have hn := Nat.count_le (p := One D) (n := 1024)
  have hi := i.isLt
  have hal := a.isLt
  have hjl := j.isLt
  have both := count_both (One D)
  have mono' : Monotone (Nat.count fun j => ¬ One D j) := Nat.count_monotone _
  have c0 := both j.val
  have c1 := both (j.val + 1)
  have c2 := both 1024
  have c3 := both 2048
  have tot := hD.total
  have step : Nat.count (One D) (j.val + 1) = _ := Nat.count_succ _ _
  have step' : Nat.count (fun j => ¬ One D j) (j.val + 1) = _ := Nat.count_succ _ _
  have last := mono' (show j.val + 1 ≤ 2048 by omega)
  have hall := ahead_all (hd (pr c)) hD
  have hlp := lower_pr c
  unfold place halfAt at hj
  unfold inAt at hm
  unfold Plan.sent
  cases hl : lower c with
  | true =>
    rw [if_pos hl] at hj hm
    rw [hl] at hlp
    have hlp' : ¬ lower (pr c) = true := by rw [hlp]; decide
    by_cases ho : One D j.val
    · rw [if_pos ho] at hj; omega
    · rw [if_neg ho] at hj step
      rw [if_pos ho] at step'
      have hge : 1024 ≤ j.val := by
        by_contra hlt
        have := mono' (show j.val + 1 ≤ 1024 by omega)
        omega
      have hlt : j.val - 1024 < 1024 := by omega
      have ej : 1024 + (j.val - 1024) = j.val := by omega
      have hs : Leaves (pr c) (p.d (pr c)) (j.val - 1024) := (leaves_upper (hd (pr c)) hD hlp hlt).mpr (by rw [ej]; exact ho)
      have ha := ahead_upper (hd (pr c)) hD hlp hlt.le
      rw [ej] at ha
      rw [sent_row (pr c) (p.d (pr c)) (p.x (pr c)) (k := ⟨j.val - 1024, hlt⟩) hs b
        (by unfold outAt; rw [if_neg hlp', hall]; show ahead (pr c) (p.d (pr c)) (j.val - 1024) + _ = _; omega), hx]
      refine congrArg (fun k => X (ix2 k b)) (Fin.ext ?_)
      show halfAt (pr c) + (j.val - 1024) = j.val
      unfold halfAt; rw [if_neg hlp']; exact ej
  | false =>
    have hl' : ¬ lower c = true := by rw [hl]; decide
    rw [if_neg hl'] at hj hm
    rw [hl] at hlp
    have hlp' : lower (pr c) = true := hlp
    by_cases ho : One D j.val
    · rw [if_pos ho] at hj step
      have hlt : j.val < 1024 := by
        by_contra hge
        have := mono (show 1024 ≤ j.val by omega)
        omega
      have hs : Leaves (pr c) (p.d (pr c)) j.val := (leaves_lower (hd (pr c)) hD hlp' hlt).mpr ho
      have ha := ahead_lower (hd (pr c)) hD hlp' hlt.le
      rw [sent_row (pr c) (p.d (pr c)) (p.x (pr c)) (k := ⟨j.val, hlt⟩) hs b
        (by unfold outAt; rw [if_pos hlp']; show ahead (pr c) (p.d (pr c)) j.val + 0 = _; omega), hx]
      refine congrArg (fun k => X (ix2 k b)) (Fin.ext ?_)
      show halfAt (pr c) + j.val = j.val
      unfold halfAt; rw [if_pos hlp']; exact Nat.zero_add _
    · rw [if_neg ho] at hj
      rw [if_pos ho] at step'
      omega

/-- Each row of a device's result is the row of the whole array whose place it is. -/
theorem result_row (hd : ∀ c, Half c (p.d c) D) (hD : Trades q D) (hx : ∀ (c : Dev nD) (k : Fin 1024) (b : Fin 512), p.x c (ix2 k b) = X (ix2 ⟨halfAt c + k.val, halfAt_le c k⟩ b))
    (c : Dev nD) (r : Fin 1024) (b : Fin 512) (j : Fin 2048) (hj : place D j.val = halfAt c + r.val) :
    p.result c (ix2 r b) = X (ix2 j b) := by
  have hr := r.isLt
  have hall := ahead_all (hd c) hD
  have hn := ahead_le c (p.d c) 1024
  have er : 128 * (blockOf r).val + (placeOf r).val = r.val := Nat.div_add_mod _ _
  show p.outC c (blockOf r) (ix2 (placeOf r) b) = _
  unfold Plan.outC Plan.out Plan.n
  rw [leaveW_eq, inStart_eq c hn, outBlock_merge, merge_apply, comesBit_eq (inAt_le c hn), hall,
    show (⟨128 * (blockOf r).val + (placeOf r).val, by omega⟩ : Fin 1024) = r from Fin.ext er, er]
  by_cases hm : inAt c (Nat.count (One D) 1024) ≤ r.val ∧ r.val < inAt c (Nat.count (One D) 1024) + Nat.count (One D) 1024
  · rw [decide_eq_true hm]
    exact sent_place p X D hd hD hx c (blockOf r) (placeOf r) b j (by rw [er]; exact hj) (by rw [er]; exact hm)
  · rw [decide_eq_false hm]
    exact kept_place p X D hd hD hx c r b j hj hm

end Result

end Cert.Trade

end
-- ==== Proof.Order.lean ====
/-
The reference's order: where its stable sort by `dest` puts each row, and the rows it then reads.
-/
module

public import proofs.«01_k».proof.Proof.Rows
public import proofs.«01_k».proof.Proof.Sorted
public import Idealize.ShloMosaic.Lib.PlanTiles.StableSort
public import Idealize.ShloMosaic.Lib.StableHlo.Predicate

@[expose] public section

noncomputable section

namespace Cert.Trade

open Idealize.ShloMosaic Idealize.ShloMosaic.StableHlo Idealize.SL.Sem
open Cert.ReferenceIdeal Cert.ReferenceIdeal.Gen

/-! ## A sort along a vector -/

/-- What stands in order in the sorted list stands so at the sorted positions. -/
theorem sortedFrom_pairwise {n : ℕ} (R : Fin n → Fin n → Bool) (r : Fin n → Fin n → Prop) (h : (sortPositions n R).Pairwise r)
    {i j : Fin n} (hij : i < j) : r (sortedFrom R i) (sortedFrom R j) :=
  List.pairwise_iff_get.mp h _ _ hij

/-- A strictly ascending list of `n` numbers below `n` is the list of them all. -/
theorem ascending_eq {n : ℕ} (f : Fin n → ℕ) (hn : ∀ i, f i < n) (hf : ∀ i j, i < j → f i < f j) (i : Fin n) : f i = i.val := by
  have hs : StrictMono fun i : Fin n => (⟨f i, hn i⟩ : Fin n) := fun _ _ h => hf _ _ h
  exact Nat.le_antisymm (hs.apply_le (x := i)) (hs.le_apply (x := i))

/-- The second vector after a sort of two by the first: at each position the entry that the sort brings there. -/
theorem sort2_at {n : ℕ} {α β : Type} (cmp : α × β → α × β → BitVec 1) (x : (⟨1, ![n]⟩ : Shape).Idx → α) (y : (⟨1, ![n]⟩ : Shape).Idx → β) (i : Fin n) :
    (Host.sort2 ⟨1, ![n]⟩ 0 cmp x y).2 (ix1 i)
      = y (ix1 (sortedFrom (fun k k' => cmp (x (ix1 k), y (ix1 k)) (x (ix1 k'), y (ix1 k')) == 1#1) i)) := by
  have e : ∀ (j : (⟨1, ![n]⟩ : Shape).Idx) (k : Fin n), j.along (0 : Fin 1) k = ix1 k := fun j k => by
    rw [Shape.Idx.along_rank1]; funext a; obtain rfl : a = 0 := Subsingleton.elim _ _; rfl
  unfold Host.sort2
  rw [dif_pos (show 0 < (⟨1, ![n]⟩ : Shape).rank from Nat.one_pos)]
  refine congrArg y ((e _ _).trans (congrArg ix1 ?_))
  have e' : ∀ g : Fin n → (⟨1, ![n]⟩ : Shape).Idx, (∀ k, g k = ix1 k) → sortedFrom (fun k k' => cmp (x (g k), y (g k)) (x (g k'), y (g k')) == 1#1) i
      = sortedFrom (fun k k' => cmp (x (ix1 k), y (ix1 k)) (x (ix1 k'), y (ix1 k')) == 1#1) i := fun g hg => by
    obtain rfl : g = ix1 := funext hg
    rfl
  exact e' _ (e (ix1 i))

/-- The iota's entry is its position. -/
theorem iotaInDim_apply {n : ℕ} (i : Fin n) : iotaInDim ⟨1, ![n]⟩ 32 0 (ix1 i) = BitVec.ofNat 32 i.val := rfl

/-- A vector written as one column. -/
theorem spread_rows {α : Type} (x : S2048.Idx → α) (i : Fin 2048) : broadcastInDim S2048x1 ![0] bcast_S2048_S2048x1_0 x (ix2 i 0) = x (ix1 i) := by
  unfold broadcastInDim
  refine congrArg x (funext fun a => ?_)
  obtain rfl : a = 0 := Subsingleton.elim _ _
  rw [dif_neg (by decide)]
  rfl

section Order

variable {q : ℕ} {D : IVec D2048 32}

/-- A row leads if its destination is block 0. -/
def lead (D : IVec D2048 32) (k : Fin 2048) : ℕ := if One D k.val then 0 else 1

theorem lead_eq (D : IVec D2048 32) (k : Fin 2048) : lead D k = if One D k.val then 0 else 1 := rfl

theorem word_one {k : Fin 2048} (h : One D k.val) : D (ix1 k) = 1#32 := h.2

theorem word_zero (hD : Trades q D) {k : Fin 2048} (h : ¬ One D k.val) : D (ix1 k) = 0#32 :=
  (hD.bin k).resolve_right fun e => h ⟨k.isLt, e⟩

/-- The reference's comparison, of zeros and ones. -/
theorem before_eq (hD : Trades q D) (k k' : Fin 2048) (x y : BitVec 32) :
    (comparator_i32_i32_d0 (D (ix1 k), x) (D (ix1 k'), y) == 1#1) = decide (lead D k' < lead D k) := by
  rw [lead_eq, lead_eq]
  by_cases h : One D k.val <;> by_cases h' : One D k'.val
  · rw [word_one h, word_one h', if_pos h, if_pos h']; rfl
  · rw [word_one h, word_zero hD h', if_pos h, if_neg h']; rfl
  · rw [word_zero hD h, word_one h', if_neg h, if_pos h']; rfl
  · rw [word_zero hD h, word_zero hD h', if_neg h, if_neg h']; rfl

/-- Every row has a place among the 2048. -/
theorem place_lt (hD : Trades q D) (k : Fin 2048) : place D k.val < 2048 := by
  have hk := k.isLt
  have tot := hD.total
  have mono : Monotone (Nat.count (One D)) := Nat.count_monotone _
  have step : Nat.count (One D) (k.val + 1) = _ := Nat.count_succ _ _
  have := mono (show k.val + 1 ≤ 2048 by omega)
  unfold place
  by_cases h : One D k.val
  · rw [if_pos h] at step ⊢; omega
  · rw [if_neg h]; omega

/-- A row that the sort puts before another has an earlier place. -/
theorem place_mono (hD : Trades q D) {a b : Fin 2048} (h : PlanTiles.Lex (lead D) (· < ·) a b) : place D a.val < place D b.val := by
  have ha := a.isLt
  have hb := b.isLt
  have tot := hD.total
  have both := count_both (One D)
  have mono : Monotone (Nat.count (One D)) := Nat.count_monotone _
  have mono' : Monotone (Nat.count fun j => ¬ One D j) := Nat.count_monotone _
  have step : Nat.count (One D) (a.val + 1) = _ := Nat.count_succ _ _
  have step' : Nat.count (fun j => ¬ One D j) (a.val + 1) = _ := Nat.count_succ _ _
  have c0 := both a.val
  have c1 := both b.val
  have c2 := both 2048
  have c3 := both (a.val + 1)
  unfold PlanTiles.Lex at h
  rw [lead_eq, lead_eq] at h
  unfold place
  by_cases oa : One D a.val <;> by_cases ob : One D b.val
  · rw [if_pos oa, if_pos ob] at h
    rw [if_pos oa] at step
    have hab : a.val < b.val := by rcases h with h | h; exacts [absurd h (by omega), h.2]
    have := mono (show a.val + 1 ≤ b.val by omega)
    rw [if_pos oa, if_pos ob]; omega
  · rw [if_pos oa, if_neg ob] at h
    rcases h with h | h <;> omega
  · rw [if_pos oa] at step'
    have := mono' (show a.val + 1 ≤ 2048 by omega)
    rw [if_neg oa, if_pos ob]; omega
  · rw [if_neg oa, if_neg ob] at h
    rw [if_pos oa] at step'
    have hab : a.val < b.val := by rcases h with h | h; exacts [absurd h (by omega), h.2]
    have := mono' (show a.val + 1 ≤ b.val by omega)
    rw [if_neg oa, if_neg ob]; omega

/-- The row that the sort puts at position `i`. -/
def rowAt (D : IVec D2048 32) (i : Fin 2048) : Fin 2048 := sortedFrom (fun a b : Fin 2048 => decide (lead D b < lead D a)) i

/-- The rows in the sort's order have ascending places. -/
theorem rowAt_mono (hD : Trades q D) {i j : Fin 2048} (h : i < j) : place D (rowAt D i).val < place D (rowAt D j).val :=
  place_mono hD (sortedFrom_pairwise _ _
    (PlanTiles.pairwise_stableSort_lex (lead D) (· < ·) (List.finRange 2048) (List.pairwise_lt_finRange 2048)) h)

/-- The row at position `i` is the one whose place is `i`. -/
theorem place_rowAt (hD : Trades q D) (i : Fin 2048) : place D (rowAt D i).val = i.val :=
  ascending_eq (fun i => place D (rowAt D i).val) (fun i => place_lt hD _) (fun _ _ h => rowAt_mono hD h) i

/-- The sort's result: the number of the row at each position. -/
theorem order_apply (hD : Trades q D) (i : Fin 2048) : Cert.Sorted.order D (ix1 i) = BitVec.ofNat 32 (rowAt D i).val := by
  unfold Cert.Sorted.order rowAt
  rw [sort2_at]
  have e : (fun k k' : Fin 2048 => comparator_i32_i32_d0 (D (ix1 k), iotaInDim S2048 32 0 (ix1 k)) (D (ix1 k'), iotaInDim S2048 32 0 (ix1 k')) == 1#1)
      = fun a b => decide (lead D b < lead D a) := by
    funext k k'; exact before_eq hD k k' _ _
  rw [e, iotaInDim_apply]

/-- The numbers as they are read: none is negative, so each is the sort's. -/
theorem places_apply (hD : Trades q D) (i : Fin 2048) : Cert.Sorted.places D (ix2 i 0) = BitVec.ofNat 32 (rowAt D i).val := by
  have hr := (rowAt D i).isLt
  unfold Cert.Sorted.places
  rw [spread_rows, ValueIdx.select_apply]
  have h : cmpi .slt (Cert.Sorted.order D) (broadcastInDim S2048 ![] bcast_S_S2048 (constantI S_ 32 0#32)) (ix1 i) = 0#1 := by
    show IntOp.cmpi .slt (Cert.Sorted.order D (ix1 i)) 0#32 = 0#1
    rw [order_apply hD]
    show BitVec.ofBool ((BitVec.ofNat 32 (rowAt D i).val).slt 0#32) = 0#1
    rw [BitVec.slt_eq_decide, Predicate.toInt_ofNat_small _ (by omega), decide_eq_false (by show ¬ _ < (0 : ℤ); omega)]
    rfl
  rw [h]
  exact order_apply hD i

end Order

/-- The gather of whole rows: row `i` of the result is the row that the `i`-th number names, if there is such a row. -/
theorem gather_rows {α : Type} (X : S2048x512.Idx → α) (v : IVec S2048x1 32) (i j : Fin 2048) (b : Fin 512) (h : (v (ix2 i 0)).toInt = j.val) :
    Host.gather gather_S2048x512_S2048x1_S2048x512_1_0_n_n_0_1_1512 X v (ix2 i b) = X (ix2 j b) := by
  unfold Host.gather
  refine congrArg X (funext fun a => Fin.ext ?_)
  show GatherDims.start _ (ix2 i b) v a + GatherDims.batchCoord _ (ix2 i b) a + GatherDims.offCoord _ (ix2 i b) a = _
  rw [GatherDims.batchCoord_eq_zero _ _ _ List.not_mem_nil]
  match a with
  | ⟨0, _⟩ =>
    have hm : (0 : Fin 2) ∈ gather_S2048x512_S2048x1_S2048x512_1_0_n_n_0_1_1512.startIndexMap := List.mem_singleton.mpr rfl
    have hi : gather_S2048x512_S2048x1_S2048x512_1_0_n_n_0_1_1512.siIdx (ix2 i b) ⟨_, List.idxOf_lt_length_iff.2 hm⟩ = ix2 i 0 := by
      funext k; refine Fin.ext ?_
      match k with
      | ⟨0, _⟩ => rfl
      | ⟨1, _⟩ => rfl
    have hj := j.isLt
    show GatherDims.start gather_S2048x512_S2048x1_S2048x512_1_0_n_n_0_1_1512 (ix2 i b) v (0 : Fin 2) + 0
      + GatherDims.offCoord gather_S2048x512_S2048x1_S2048x512_1_0_n_n_0_1_1512 (ix2 i b) (0 : Fin 2) = j.val
    rw [GatherDims.offCoord_eq_zero _ _ _ fun h => ((GatherDims.mem_sKept _ _).mp h).1 (List.mem_singleton.mpr rfl)]
    unfold GatherDims.start
    rw [dif_pos hm, hi, h]
    show min (j.val : ℤ).toNat (2048 - 1) + 0 + 0 = j.val
    omega
  | ⟨1, _⟩ =>
    have hm : (1 : Fin 2) ∉ gather_S2048x512_S2048x1_S2048x512_1_0_n_n_0_1_1512.startIndexMap := by
      show (1 : Fin 2) ∉ [(0 : Fin 2)]; decide
    have hk : (1 : Fin 2) ∈ gather_S2048x512_S2048x1_S2048x512_1_0_n_n_0_1_1512.sKept :=
      (GatherDims.mem_sKept _ _).mpr ⟨hm, List.not_mem_nil⟩
    show GatherDims.start gather_S2048x512_S2048x1_S2048x512_1_0_n_n_0_1_1512 (ix2 i b) v (1 : Fin 2) + 0
      + GatherDims.offCoord gather_S2048x512_S2048x1_S2048x512_1_0_n_n_0_1_1512 (ix2 i b) (1 : Fin 2) = b.val
    unfold GatherDims.start GatherDims.offCoord
    rw [dif_neg hm, dif_pos hk]
    show 0 + 0 + _ = _
    rw [Nat.add_zero, Nat.zero_add]
    rfl

/-- The reference's result: each row is the one whose place it is. -/
theorem sorted_row {q : ℕ} (X : FVec Ideal S2048x512 .f32) {D : IVec D2048 32} (hD : Trades q D) (i : Fin 2048) (b : Fin 512) :
    Cert.Sorted.sorted X D (ix2 i b) = X (ix2 (rowAt D i) b) := by
  have hr := (rowAt D i).isLt
  refine gather_rows X (Cert.Sorted.places D) i (rowAt D i) b ?_
  rw [places_apply hD, Predicate.toInt_ofNat_small _ (by omega)]

end Cert.Trade

end
-- ==== Proof.Equation.lean ====
/-
The equation: the devices' results together are the reference's.
-/
module

public import proofs.«01_k».proof.Proof.Order
public import proofs.«01_k».proof.Proof.Frames
public import Idealize.ShloMosaic.Lib.Layout

@[expose] public section

noncomputable section

namespace Cert.Trade

open Idealize.ShloMosaic Idealize.ShloMosaic.TcCoe Idealize.SL.Sem
open Cert.KernelIdeal Cert.KernelIdeal.Gen

/-- A half of the array's rows. -/
abbrev HalfRows : Shape := ⟨2, ![1024, 512]⟩
/-- The whole array's rows. -/
abbrev AllRows : Shape := ⟨2, ![2048, 512]⟩

theorem block_row (c : Dev nD) : ((Layout.meshBlock [2, 2, 2] ![[1], []] c : (b : Fin 2) → _) 0).val * 1024 = halfAt c := by
  revert c; decide +kernel

theorem block_col (c : Dev nD) : ((Layout.meshBlock [2, 2, 2] ![[1], []] c : (b : Fin 2) → _) 1).val = 0 := by
  revert c; decide +kernel

/-- A device's block of an array of 2048 rows is its half of them. -/
theorem block_apply {α : Type} (c : Dev nD) (v : AllRows.Idx → α) (k : Fin 1024) (b : Fin 512) :
    Layout.blockN HalfRows AllRows (Layout.meshBlock [2, 2, 2] ![[1], []] c) v (by decide) (ix2 k b) = v (ix2 ⟨halfAt c + k.val, halfAt_le c k⟩ b) := by
  unfold Layout.blockN
  refine congrArg v (funext fun a => Fin.ext ?_)
  rw [Layout.TilesN.idx_val]
  match a with
  | ⟨0, _⟩ => exact congrArg (· + k.val) (block_row c)
  | ⟨1, _⟩ =>
    refine (congrArg (· * 512 + b.val) (block_col c)).trans ?_
    show 0 * 512 + b.val = b.val
    omega

/-- A device's result is its half of the reference's. -/
theorem result_half {q : ℕ} (p : Plan Ideal) (X : FVec Ideal AllRows .f32) (D : IVec D2048 32) (hd : ∀ c, Half c (p.d c) D) (hD : Trades q D)
    (hx : ∀ (c : Dev nD) (k : Fin 1024) (b : Fin 512), p.x c (ix2 k b) = X (ix2 ⟨halfAt c + k.val, halfAt_le c k⟩ b)) (c : Dev nD) :
    p.result c = Layout.blockN HalfRows AllRows (Layout.meshBlock [2, 2, 2] ![[1], []] c) (Cert.Sorted.sorted X D) (by decide) := by
  funext i
  obtain ⟨r, b, rfl⟩ : ∃ (r : Fin 1024) (b : Fin 512), i = ix2 r b := ⟨i 0, i 1, (ix2_eta i).symm⟩
  refine Eq.trans ?_ (block_apply c _ r b).symm
  rw [sorted_row X hD]
  exact result_row p X D hd hD hx c r b _ (place_rowAt hD _)

/-- Under each precondition the idealized kernel and the reference both run, and the devices hold their halves of the reference's result. -/
theorem equation {q : ℕ} {lo hi : BitVec 32} (hlo : lo.toInt = 128 * q - 128) (hhi : hi.toInt = 128 * q)
    (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev nD, tradesBit lo hi (m ((c : Thread nD τ).loc main_arg1)) = fun _ => 1#1)
    (e : ∀ c : Dev nD, m ((c : Thread nD τ).loc main_arg0) = Layout.blockN HalfRows AllRows (Layout.meshBlock [2, 2, 2] ![[1], []] c)
          (m' (((0 : Dev Cert.ReferenceIdeal.nD).tc : Thread Cert.ReferenceIdeal.nD Cert.ReferenceIdeal.τ).loc Cert.ReferenceIdeal.main_arg0))
      ∧ m ((c : Thread nD τ).loc main_arg1)
        = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v8),
      θ_run (defs (F := Ideal)) (onTc (τ := τ) (main (F := Ideal))) ⟨m, fun _ => 0, g⟩ (fun r => ∀ c : Dev nD,
          r.2.mem ((c : Thread nD τ).loc main_v11) = Layout.blockN HalfRows AllRows (Layout.meshBlock [2, 2, 2] ![[1], []] c) v
          ∧ r.2.mem ((c : Thread nD τ).loc main_arg0) = m ((c : Thread nD τ).loc main_arg0)
          ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  have hT : ∀ c : Dev nD, Trades q (m ((c : Thread nD τ).loc main_arg1)) := fun c => trades_of hlo hhi (h c)
  have hD : Trades q (m' (((0 : Dev Cert.ReferenceIdeal.nD).tc : Thread Cert.ReferenceIdeal.nD Cert.ReferenceIdeal.τ).loc Cert.ReferenceIdeal.main_arg1)) :=
    (e 0).2 ▸ hT 0
  refine ⟨Cert.Sorted.sorted _ _, (θ_run defs _ _).mono (fun _ t c => ⟨(t.1 c).2.2.trans ?_, (t.1 c).1, (t.1 c).2.1⟩) (run_trades m g hT),
    (θ_run _ _ _).mono (fun _ t => t 0) (Cert.Sorted.run_main m' g')⟩
  refine result_half (plan m) _ _ (fun c => ?_) hD (fun c k b => ?_) c
  · have := half_read m c
    rw [(e c).2] at this
    exact this
  · exact (congrFun ((rows_read m c).trans (e c).1) (ix2 k b)).trans (block_apply c _ k b)

end Cert.Trade

end
-- ==== Proof.lean ====
/-
The certificate: the frames of the kernel, of its idealized text and of the reference, and the equations that the idealized kernel and the
reference compute the same array, one for each number of blocks that the two halves trade.
-/
module

public import proofs.«01_k».proof.Defs
public import proofs.«01_k».proof.Proof.Frames
public import proofs.«01_k».proof.Proof.Sorted
public import proofs.«01_k».proof.Proof.Equation
public import Idealize.ShloMosaic.Adequacy

@[expose] public section

noncomputable section

namespace Cert.Proof

open Idealize.ShloMosaic Idealize.SL.Sem Cert.Trade

/-- The reference terminates, its arguments and its semaphores as they were. -/
theorem reference_frame : Cert.quiescent_ReferenceIdeal := fun m g _ =>
  (θ_run _ _ _).mono (fun _ h => ⟨fun c => (h c).2, sem_eq_zero_of_no_sems (by decide) _⟩) (Cert.Sorted.run_main m g)

theorem claim : Cert.Claim :=
  ⟨Cert.Kernel.Gen.facts, Cert.KernelIdeal.Gen.facts, Cert.ReferenceIdeal.Gen.facts,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    ⟨cut1024, sum1024, one0, spread2048, sum2048⟩,
    fun m g h => frame_bits (q := 0) (lo := 4294967168#32) (hi := 0#32) (by decide) (by decide) m g h,
    fun m g h => frame_bits (q := 1) (lo := 0#32) (hi := 128#32) (by decide) (by decide) m g h,
    fun m g h => frame_bits (q := 2) (lo := 128#32) (hi := 256#32) (by decide) (by decide) m g h,
    fun m g h => frame_bits (q := 3) (lo := 256#32) (hi := 384#32) (by decide) (by decide) m g h,
    fun m g h => frame_bits (q := 4) (lo := 384#32) (hi := 512#32) (by decide) (by decide) m g h,
    fun m g h => frame_bits (q := 5) (lo := 512#32) (hi := 640#32) (by decide) (by decide) m g h,
    fun m g h => frame_bits (q := 6) (lo := 640#32) (hi := 768#32) (by decide) (by decide) m g h,
    fun m g h => frame_bits (q := 7) (lo := 768#32) (hi := 896#32) (by decide) (by decide) m g h,
    fun m g h => frame_bits (q := 8) (lo := 896#32) (hi := 1024#32) (by decide) (by decide) m g h,
    fun m g h => frame_any (q := 0) (lo := 4294967168#32) (hi := 0#32) (by decide) (by decide) m g h,
    fun m g h => frame_any (q := 1) (lo := 0#32) (hi := 128#32) (by decide) (by decide) m g h,
    fun m g h => frame_any (q := 2) (lo := 128#32) (hi := 256#32) (by decide) (by decide) m g h,
    fun m g h => frame_any (q := 3) (lo := 256#32) (hi := 384#32) (by decide) (by decide) m g h,
    fun m g h => frame_any (q := 4) (lo := 384#32) (hi := 512#32) (by decide) (by decide) m g h,
    fun m g h => frame_any (q := 5) (lo := 512#32) (hi := 640#32) (by decide) (by decide) m g h,
    fun m g h => frame_any (q := 6) (lo := 640#32) (hi := 768#32) (by decide) (by decide) m g h,
    fun m g h => frame_any (q := 7) (lo := 768#32) (hi := 896#32) (by decide) (by decide) m g h,
    fun m g h => frame_any (q := 8) (lo := 896#32) (hi := 1024#32) (by decide) (by decide) m g h,
    reference_frame,
    fun m g _ => reference_frame m g trivial,
    fun m g _ => reference_frame m g trivial,
    fun m g _ => reference_frame m g trivial,
    fun m g _ => reference_frame m g trivial,
    fun m g _ => reference_frame m g trivial,
    fun m g _ => reference_frame m g trivial,
    fun m g _ => reference_frame m g trivial,
    fun m g _ => reference_frame m g trivial,
    fun m g _ => reference_frame m g trivial,
    trivial,
    fun m g m' g' h e => equation (q := 0) (lo := 4294967168#32) (hi := 0#32) (by decide) (by decide) m g m' g' h e,
    fun m g m' g' h e => equation (q := 1) (lo := 0#32) (hi := 128#32) (by decide) (by decide) m g m' g' h e,
    fun m g m' g' h e => equation (q := 2) (lo := 128#32) (hi := 256#32) (by decide) (by decide) m g m' g' h e,
    fun m g m' g' h e => equation (q := 3) (lo := 256#32) (hi := 384#32) (by decide) (by decide) m g m' g' h e,
    fun m g m' g' h e => equation (q := 4) (lo := 384#32) (hi := 512#32) (by decide) (by decide) m g m' g' h e,
    fun m g m' g' h e => equation (q := 5) (lo := 512#32) (hi := 640#32) (by decide) (by decide) m g m' g' h e,
    fun m g m' g' h e => equation (q := 6) (lo := 640#32) (hi := 768#32) (by decide) (by decide) m g m' g' h e,
    fun m g m' g' h e => equation (q := 7) (lo := 768#32) (hi := 896#32) (by decide) (by decide) m g m' g' h e,
    fun m g m' g' h e => equation (q := 8) (lo := 896#32) (hi := 1024#32) (by decide) (by decide) m g m' g' h e⟩

end Cert.Proof

end
